-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 768]⟩ ⟨2, ![8192, 768]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 2, 64]⟩ ⟨4, ![2, 512, 32, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 512, 2, 64]⟩ ⟨4, ![2, 512, 32, 64]⟩ 2 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S512x768 : Shape := ⟨2, ![512, 768]⟩
abbrev S2x512x2x64 : Shape := ⟨4, ![2, 512, 2, 64]⟩
abbrev S16 : Shape := ⟨1, ![16]⟩
abbrev S_ : Shape := ⟨0, ![]⟩
abbrev S1x256x768 : Shape := ⟨3, ![1, 256, 768]⟩
abbrev S256x768 : Shape := ⟨2, ![256, 768]⟩
abbrev S256x512 : Shape := ⟨2, ![256, 512]⟩
abbrev S1x512x1x64 : Shape := ⟨4, ![1, 512, 1, 64]⟩
abbrev S512x64 : Shape := ⟨2, ![512, 64]⟩
abbrev S256x64 : Shape := ⟨2, ![256, 64]⟩
abbrev S256 : Shape := ⟨1, ![256]⟩
abbrev S256x1 : Shape := ⟨2, ![256, 1]⟩
abbrev S32x768 : Shape := ⟨2, ![32, 768]⟩
abbrev S1 : Shape := ⟨1, ![1]⟩
abbrev S16x32x768 : Shape := ⟨3, ![16, 32, 768]⟩

abbrev nBuf : Space → Nat
  | .hbm => 6
  | .vmem => 8
  | .smem => 0
  | _ => 0

abbrev bufTy : (tb : Table) → Fin (tcTables nBuf tb) → BufTy
  | .hbm, ⟨0, _⟩ => ⟨S2x256x768, .bf16⟩
  | .hbm, ⟨1, _⟩ => ⟨S768x512, .bf16⟩
  | .hbm, ⟨2, _⟩ => ⟨S512x768, .bf16⟩
  | .hbm, ⟨3, _⟩ => ⟨S2x512x2x64, .bf16⟩
  | .hbm, ⟨4, _⟩ => ⟨S2x512x2x64, .bf16⟩
  | .hbm, ⟨5, _⟩ => ⟨S512x768, .bf16⟩
  | .local _ .vmem, ⟨0, _⟩ => ⟨S2x256x768, .bf16⟩
  | .local _ .vmem, ⟨1, _⟩ => ⟨S768x512, .bf16⟩
  | .local _ .vmem, ⟨2, _⟩ => ⟨S512x768, .bf16⟩
  | .local _ .vmem, ⟨3, _⟩ => ⟨S2x512x2x64, .bf16⟩
  | .local _ .vmem, ⟨4, _⟩ => ⟨S2x512x2x64, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_429 : BitVec 32 := 0#32
  let c0_i32_427 : BitVec 32 := 0#32
  let c1_i32_428 : BitVec 32 := 1#32
  let v672 : BitVec 32 := Scalar.muli c0_i32_427 c1_i32_428
  let v673 : BitVec 32 := Scalar.addi c0_i32_429 v672
  v673.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_429 : BitVec 32 := 0#32
  let c1_i32_427 : BitVec 32 := 1#32
  let c1_i32_428 : BitVec 32 := 1#32
  let v672 : BitVec 32 := Scalar.muli c1_i32_427 c1_i32_428
  let v673 : BitVec 32 := Scalar.addi c0_i32_429 v672
  v673.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_429 : BitVec 32 := 0#32
  let c2_i32_427 : BitVec 32 := 2#32
  let c1_i32_428 : BitVec 32 := 1#32
  let v672 : BitVec 32 := Scalar.muli c2_i32_427 c1_i32_428
  let v673 : BitVec 32 := Scalar.addi c0_i32_429 v672
  v673.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_429 : BitVec 32 := 0#32
  let c3_i32_427 : BitVec 32 := 3#32
  let c1_i32_428 : BitVec 32 := 1#32
  let v672 : BitVec 32 := Scalar.muli c3_i32_427 c1_i32_428
  let v673 : BitVec 32 := Scalar.addi c0_i32_429 v672
  v673.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_429 : BitVec 32 := 0#32
  let c4_i32_427 : BitVec 32 := 4#32
  let c1_i32_428 : BitVec 32 := 1#32
  let v672 : BitVec 32 := Scalar.muli c4_i32_427 c1_i32_428
  let v673 : BitVec 32 := Scalar.addi c0_i32_429 v672
  v673.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_429 : BitVec 32 := 0#32
  let c5_i32_427 : BitVec 32 := 5#32
  let c1_i32_428 : BitVec 32 := 1#32
  let v672 : BitVec 32 := Scalar.muli c5_i32_427 c1_i32_428
  let v673 : BitVec 32 := Scalar.addi c0_i32_429 v672
  v673.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_429 : BitVec 32 := 0#32
  let c6_i32_427 : BitVec 32 := 6#32
  let c1_i32_428 : BitVec 32 := 1#32
  let v672 : BitVec 32 := Scalar.muli c6_i32_427 c1_i32_428
  let v673 : BitVec 32 := Scalar.addi c0_i32_429 v672
  v673.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_429 : BitVec 32 := 0#32
  let c7_i32_427 : BitVec 32 := 7#32
  let c1_i32_428 : BitVec 32 := 1#32
  let v672 : BitVec 32 := Scalar.muli c7_i32_427 c1_i32_428
  let v673 : BitVec 32 := Scalar.addi c0_i32_429 v672
  v673.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_429 : BitVec 32 := 0#32
  let c8_i32_427 : BitVec 32 := 8#32
  let c1_i32_428 : BitVec 32 := 1#32
  let v672 : BitVec 32 := Scalar.muli c8_i32_427 c1_i32_428
  let v673 : BitVec 32 := Scalar.addi c0_i32_429 v672
  v673.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_429 : BitVec 32 := 0#32
  let c9_i32_427 : BitVec 32 := 9#32
  let c1_i32_428 : BitVec 32 := 1#32
  let v672 : BitVec 32 := Scalar.muli c9_i32_427 c1_i32_428
  let v673 : BitVec 32 := Scalar.addi c0_i32_429 v672
  v673.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_429 : BitVec 32 := 0#32
  let c10_i32_427 : BitVec 32 := 10#32
  let c1_i32_428 : BitVec 32 := 1#32
  let v672 : BitVec 32 := Scalar.muli c10_i32_427 c1_i32_428
  let v673 : BitVec 32 := Scalar.addi c0_i32_429 v672
  v673.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_429 : BitVec 32 := 0#32
  let c11_i32_427 : BitVec 32 := 11#32
  let c1_i32_428 : BitVec 32 := 1#32
  let v672 : BitVec 32 := Scalar.muli c11_i32_427 c1_i32_428
  let v673 : BitVec 32 := Scalar.addi c0_i32_429 v672
  v673.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_429 : BitVec 32 := 0#32
  let c12_i32_427 : BitVec 32 := 12#32
  let c1_i32_428 : BitVec 32 := 1#32
  let v672 : BitVec 32 := Scalar.muli c12_i32_427 c1_i32_428
  let v673 : BitVec 32 := Scalar.addi c0_i32_429 v672
  v673.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_429 : BitVec 32 := 0#32
  let c13_i32_427 : BitVec 32 := 13#32
  let c1_i32_428 : BitVec 32 := 1#32
  let v672 : BitVec 32 := Scalar.muli c13_i32_427 c1_i32_428
  let v673 : BitVec 32 := Scalar.addi c0_i32_429 v672
  v673.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_429 : BitVec 32 := 0#32
  let c14_i32_427 : BitVec 32 := 14#32
  let c1_i32_428 : BitVec 32 := 1#32
  let v672 : BitVec 32 := Scalar.muli c14_i32_427 c1_i32_428
  let v673 : BitVec 32 := Scalar.addi c0_i32_429 v672
  v673.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_429 : BitVec 32 := 0#32
  let c15_i32_427 : BitVec 32 := 15#32
  let c1_i32_428 : BitVec 32 := 1#32
  let v672 : BitVec 32 := Scalar.muli c15_i32_427 c1_i32_428
  let v673 : BitVec 32 := Scalar.addi c0_i32_429 v672
  v673.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v368 : BitVec 32 := Scalar.muli v2 c32_i32
  let v369 : Index := Scalar.indexCast v368
  let c0_226 : Index := 0#32
  ![v369.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_229 : BitVec 32 := 0#32
  let v376 : BitVec 1 := Scalar.cmpi .ne v2 c0_i32_229
  let v377 : BitVec 32 := Scalar.extui v376
  let c0_i32_230 : BitVec 32 := 0#32
  let v378 : BitVec 1 := Scalar.cmpi .ne v377 c0_i32_230
  v378

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev17 : Nat :=
  let c0_i32_430 : BitVec 32 := 0#32
  let c0_i32_428 : BitVec 32 := 0#32
  let c1_i32_429 : BitVec 32 := 1#32
  let v673 : BitVec 32 := Scalar.muli c0_i32_428 c1_i32_429
  let v674 : BitVec 32 := Scalar.addi c0_i32_430 v673
  v674.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_231 : BitVec 32 := 1#32
  let v379 : BitVec 1 := Scalar.cmpi .ne v2 c1_i32_231
  let v380 : BitVec 32 := Scalar.extui v379
  let c0_i32_232 : BitVec 32 := 0#32
  let v381 : BitVec 1 := Scalar.cmpi .ne v380 c0_i32_232
  v381

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev18 : Nat :=
  let c0_i32_430 : BitVec 32 := 0#32
  let c1_i32_428 : BitVec 32 := 1#32
  let c1_i32_429 : BitVec 32 := 1#32
  let v673 : BitVec 32 := Scalar.muli c1_i32_428 c1_i32_429
  let v674 : BitVec 32 := Scalar.addi c0_i32_430 v673
  v674.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_233 : BitVec 32 := 2#32
  let v382 : BitVec 1 := Scalar.cmpi .ne v2 c2_i32_233
  let v383 : BitVec 32 := Scalar.extui v382
  let c0_i32_234 : BitVec 32 := 0#32
  let v384 : BitVec 1 := Scalar.cmpi .ne v383 c0_i32_234
  v384

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev19 : Nat :=
  let c0_i32_430 : BitVec 32 := 0#32
  let c2_i32_428 : BitVec 32 := 2#32
  let c1_i32_429 : BitVec 32 := 1#32
  let v673 : BitVec 32 := Scalar.muli c2_i32_428 c1_i32_429
  let v674 : BitVec 32 := Scalar.addi c0_i32_430 v673
  v674.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_235 : BitVec 32 := 3#32
  let v385 : BitVec 1 := Scalar.cmpi .ne v2 c3_i32_235
  let v386 : BitVec 32 := Scalar.extui v385
  let c0_i32_236 : BitVec 32 := 0#32
  let v387 : BitVec 1 := Scalar.cmpi .ne v386 c0_i32_236
  v387

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev20 : Nat :=
  let c0_i32_430 : BitVec 32 := 0#32
  let c3_i32_428 : BitVec 32 := 3#32
  let c1_i32_429 : BitVec 32 := 1#32
  let v673 : BitVec 32 := Scalar.muli c3_i32_428 c1_i32_429
  let v674 : BitVec 32 := Scalar.addi c0_i32_430 v673
  v674.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_237 : BitVec 32 := 4#32
  let v388 : BitVec 1 := Scalar.cmpi .ne v2 c4_i32_237
  let v389 : BitVec 32 := Scalar.extui v388
  let c0_i32_238 : BitVec 32 := 0#32
  let v390 : BitVec 1 := Scalar.cmpi .ne v389 c0_i32_238
  v390

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev21 : Nat :=
  let c0_i32_430 : BitVec 32 := 0#32
  let c4_i32_428 : BitVec 32 := 4#32
  let c1_i32_429 : BitVec 32 := 1#32
  let v673 : BitVec 32 := Scalar.muli c4_i32_428 c1_i32_429
  let v674 : BitVec 32 := Scalar.addi c0_i32_430 v673
  v674.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_239 : BitVec 32 := 5#32
  let v391 : BitVec 1 := Scalar.cmpi .ne v2 c5_i32_239
  let v392 : BitVec 32 := Scalar.extui v391
  let c0_i32_240 : BitVec 32 := 0#32
  let v393 : BitVec 1 := Scalar.cmpi .ne v392 c0_i32_240
  v393

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev22 : Nat :=
  let c0_i32_430 : BitVec 32 := 0#32
  let c5_i32_428 : BitVec 32 := 5#32
  let c1_i32_429 : BitVec 32 := 1#32
  let v673 : BitVec 32 := Scalar.muli c5_i32_428 c1_i32_429
  let v674 : BitVec 32 := Scalar.addi c0_i32_430 v673
  v674.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_241 : BitVec 32 := 6#32
  let v394 : BitVec 1 := Scalar.cmpi .ne v2 c6_i32_241
  let v395 : BitVec 32 := Scalar.extui v394
  let c0_i32_242 : BitVec 32 := 0#32
  let v396 : BitVec 1 := Scalar.cmpi .ne v395 c0_i32_242
  v396

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev23 : Nat :=
  let c0_i32_430 : BitVec 32 := 0#32
  let c6_i32_428 : BitVec 32 := 6#32
  let c1_i32_429 : BitVec 32 := 1#32
  let v673 : BitVec 32 := Scalar.muli c6_i32_428 c1_i32_429
  let v674 : BitVec 32 := Scalar.addi c0_i32_430 v673
  v674.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_243 : BitVec 32 := 7#32
  let v397 : BitVec 1 := Scalar.cmpi .ne v2 c7_i32_243
  let v398 : BitVec 32 := Scalar.extui v397
  let c0_i32_244 : BitVec 32 := 0#32
  let v399 : BitVec 1 := Scalar.cmpi .ne v398 c0_i32_244
  v399

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev24 : Nat :=
  let c0_i32_430 : BitVec 32 := 0#32
  let c7_i32_428 : BitVec 32 := 7#32
  let c1_i32_429 : BitVec 32 := 1#32
  let v673 : BitVec 32 := Scalar.muli c7_i32_428 c1_i32_429
  let v674 : BitVec 32 := Scalar.addi c0_i32_430 v673
  v674.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_245 : BitVec 32 := 8#32
  let v400 : BitVec 1 := Scalar.cmpi .ne v2 c8_i32_245
  let v401 : BitVec 32 := Scalar.extui v400
  let c0_i32_246 : BitVec 32 := 0#32
  let v402 : BitVec 1 := Scalar.cmpi .ne v401 c0_i32_246
  v402

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev25 : Nat :=
  let c0_i32_430 : BitVec 32 := 0#32
  let c8_i32_428 : BitVec 32 := 8#32
  let c1_i32_429 : BitVec 32 := 1#32
  let v673 : BitVec 32 := Scalar.muli c8_i32_428 c1_i32_429
  let v674 : BitVec 32 := Scalar.addi c0_i32_430 v673
  v674.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_247 : BitVec 32 := 9#32
  let v403 : BitVec 1 := Scalar.cmpi .ne v2 c9_i32_247
  let v404 : BitVec 32 := Scalar.extui v403
  let c0_i32_248 : BitVec 32 := 0#32
  let v405 : BitVec 1 := Scalar.cmpi .ne v404 c0_i32_248
  v405

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev26 : Nat :=
  let c0_i32_430 : BitVec 32 := 0#32
  let c9_i32_428 : BitVec 32 := 9#32
  let c1_i32_429 : BitVec 32 := 1#32
  let v673 : BitVec 32 := Scalar.muli c9_i32_428 c1_i32_429
  let v674 : BitVec 32 := Scalar.addi c0_i32_430 v673
  v674.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_249 : BitVec 32 := 10#32
  let v406 : BitVec 1 := Scalar.cmpi .ne v2 c10_i32_249
  let v407 : BitVec 32 := Scalar.extui v406
  let c0_i32_250 : BitVec 32 := 0#32
  let v408 : BitVec 1 := Scalar.cmpi .ne v407 c0_i32_250
  v408

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev27 : Nat :=
  let c0_i32_430 : BitVec 32 := 0#32
  let c10_i32_428 : BitVec 32 := 10#32
  let c1_i32_429 : BitVec 32 := 1#32
  let v673 : BitVec 32 := Scalar.muli c10_i32_428 c1_i32_429
  let v674 : BitVec 32 := Scalar.addi c0_i32_430 v673
  v674.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_251 : BitVec 32 := 11#32
  let v409 : BitVec 1 := Scalar.cmpi .ne v2 c11_i32_251
  let v410 : BitVec 32 := Scalar.extui v409
  let c0_i32_252 : BitVec 32 := 0#32
  let v411 : BitVec 1 := Scalar.cmpi .ne v410 c0_i32_252
  v411

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev28 : Nat :=
  let c0_i32_430 : BitVec 32 := 0#32
  let c11_i32_428 : BitVec 32 := 11#32
  let c1_i32_429 : BitVec 32 := 1#32
  let v673 : BitVec 32 := Scalar.muli c11_i32_428 c1_i32_429
  let v674 : BitVec 32 := Scalar.addi c0_i32_430 v673
  v674.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_253 : BitVec 32 := 12#32
  let v412 : BitVec 1 := Scalar.cmpi .ne v2 c12_i32_253
  let v413 : BitVec 32 := Scalar.extui v412
  let c0_i32_254 : BitVec 32 := 0#32
  let v414 : BitVec 1 := Scalar.cmpi .ne v413 c0_i32_254
  v414

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev29 : Nat :=
  let c0_i32_430 : BitVec 32 := 0#32
  let c12_i32_428 : BitVec 32 := 12#32
  let c1_i32_429 : BitVec 32 := 1#32
  let v673 : BitVec 32 := Scalar.muli c12_i32_428 c1_i32_429
  let v674 : BitVec 32 := Scalar.addi c0_i32_430 v673
  v674.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_255 : BitVec 32 := 13#32
  let v415 : BitVec 1 := Scalar.cmpi .ne v2 c13_i32_255
  let v416 : BitVec 32 := Scalar.extui v415
  let c0_i32_256 : BitVec 32 := 0#32
  let v417 : BitVec 1 := Scalar.cmpi .ne v416 c0_i32_256
  v417

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev30 : Nat :=
  let c0_i32_430 : BitVec 32 := 0#32
  let c13_i32_428 : BitVec 32 := 13#32
  let c1_i32_429 : BitVec 32 := 1#32
  let v673 : BitVec 32 := Scalar.muli c13_i32_428 c1_i32_429
  let v674 : BitVec 32 := Scalar.addi c0_i32_430 v673
  v674.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_257 : BitVec 32 := 14#32
  let v418 : BitVec 1 := Scalar.cmpi .ne v2 c14_i32_257
  let v419 : BitVec 32 := Scalar.extui v418
  let c0_i32_258 : BitVec 32 := 0#32
  let v420 : BitVec 1 := Scalar.cmpi .ne v419 c0_i32_258
  v420

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev31 : Nat :=
  let c0_i32_430 : BitVec 32 := 0#32
  let c14_i32_428 : BitVec 32 := 14#32
  let c1_i32_429 : BitVec 32 := 1#32
  let v673 : BitVec 32 := Scalar.muli c14_i32_428 c1_i32_429
  let v674 : BitVec 32 := Scalar.addi c0_i32_430 v673
  v674.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_259 : BitVec 32 := 15#32
  let v421 : BitVec 1 := Scalar.cmpi .ne v2 c15_i32_259
  let v422 : BitVec 32 := Scalar.extui v421
  let c0_i32_260 : BitVec 32 := 0#32
  let v423 : BitVec 1 := Scalar.cmpi .ne v422 c0_i32_260
  v423

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_dev32 : Nat :=
  let c0_i32_430 : BitVec 32 := 0#32
  let c15_i32_428 : BitVec 32 := 15#32
  let c1_i32_429 : BitVec 32 := 1#32
  let v673 : BitVec 32 := Scalar.muli c15_i32_428 c1_i32_429
  let v674 : BitVec 32 := Scalar.addi c0_i32_430 v673
  v674.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_298 : BitVec 32 := 0#32
  let v480 : BitVec 1 := Scalar.cmpi .ne v2 c0_i32_298
  let v481 : BitVec 32 := Scalar.extui v480
  let c0_i32_299 : BitVec 32 := 0#32
  let v482 : BitVec 1 := Scalar.cmpi .ne v481 c0_i32_299
  v482

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev33 : Nat :=
  let c0_i32_431 : BitVec 32 := 0#32
  let c0_i32_429 : BitVec 32 := 0#32
  let c1_i32_430 : BitVec 32 := 1#32
  let v674 : BitVec 32 := Scalar.muli c0_i32_429 c1_i32_430
  let v675 : BitVec 32 := Scalar.addi c0_i32_431 v674
  v675.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_300 : BitVec 32 := 1#32
  let v483 : BitVec 1 := Scalar.cmpi .ne v2 c1_i32_300
  let v484 : BitVec 32 := Scalar.extui v483
  let c0_i32_301 : BitVec 32 := 0#32
  let v485 : BitVec 1 := Scalar.cmpi .ne v484 c0_i32_301
  v485

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev34 : Nat :=
  let c0_i32_431 : BitVec 32 := 0#32
  let c1_i32_429 : BitVec 32 := 1#32
  let c1_i32_430 : BitVec 32 := 1#32
  let v674 : BitVec 32 := Scalar.muli c1_i32_429 c1_i32_430
  let v675 : BitVec 32 := Scalar.addi c0_i32_431 v674
  v675.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_302 : BitVec 32 := 2#32
  let v486 : BitVec 1 := Scalar.cmpi .ne v2 c2_i32_302
  let v487 : BitVec 32 := Scalar.extui v486
  let c0_i32_303 : BitVec 32 := 0#32
  let v488 : BitVec 1 := Scalar.cmpi .ne v487 c0_i32_303
  v488

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev35 : Nat :=
  let c0_i32_431 : BitVec 32 := 0#32
  let c2_i32_429 : BitVec 32 := 2#32
  let c1_i32_430 : BitVec 32 := 1#32
  let v674 : BitVec 32 := Scalar.muli c2_i32_429 c1_i32_430
  let v675 : BitVec 32 := Scalar.addi c0_i32_431 v674
  v675.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_304 : BitVec 32 := 3#32
  let v489 : BitVec 1 := Scalar.cmpi .ne v2 c3_i32_304
  let v490 : BitVec 32 := Scalar.extui v489
  let c0_i32_305 : BitVec 32 := 0#32
  let v491 : BitVec 1 := Scalar.cmpi .ne v490 c0_i32_305
  v491

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev36 : Nat :=
  let c0_i32_431 : BitVec 32 := 0#32
  let c3_i32_429 : BitVec 32 := 3#32
  let c1_i32_430 : BitVec 32 := 1#32
  let v674 : BitVec 32 := Scalar.muli c3_i32_429 c1_i32_430
  let v675 : BitVec 32 := Scalar.addi c0_i32_431 v674
  v675.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_306 : BitVec 32 := 4#32
  let v492 : BitVec 1 := Scalar.cmpi .ne v2 c4_i32_306
  let v493 : BitVec 32 := Scalar.extui v492
  let c0_i32_307 : BitVec 32 := 0#32
  let v494 : BitVec 1 := Scalar.cmpi .ne v493 c0_i32_307
  v494

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev37 : Nat :=
  let c0_i32_431 : BitVec 32 := 0#32
  let c4_i32_429 : BitVec 32 := 4#32
  let c1_i32_430 : BitVec 32 := 1#32
  let v674 : BitVec 32 := Scalar.muli c4_i32_429 c1_i32_430
  let v675 : BitVec 32 := Scalar.addi c0_i32_431 v674
  v675.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_308 : BitVec 32 := 5#32
  let v495 : BitVec 1 := Scalar.cmpi .ne v2 c5_i32_308
  let v496 : BitVec 32 := Scalar.extui v495
  let c0_i32_309 : BitVec 32 := 0#32
  let v497 : BitVec 1 := Scalar.cmpi .ne v496 c0_i32_309
  v497

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev38 : Nat :=
  let c0_i32_431 : BitVec 32 := 0#32
  let c5_i32_429 : BitVec 32 := 5#32
  let c1_i32_430 : BitVec 32 := 1#32
  let v674 : BitVec 32 := Scalar.muli c5_i32_429 c1_i32_430
  let v675 : BitVec 32 := Scalar.addi c0_i32_431 v674
  v675.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_310 : BitVec 32 := 6#32
  let v498 : BitVec 1 := Scalar.cmpi .ne v2 c6_i32_310
  let v499 : BitVec 32 := Scalar.extui v498
  let c0_i32_311 : BitVec 32 := 0#32
  let v500 : BitVec 1 := Scalar.cmpi .ne v499 c0_i32_311
  v500

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev39 : Nat :=
  let c0_i32_431 : BitVec 32 := 0#32
  let c6_i32_429 : BitVec 32 := 6#32
  let c1_i32_430 : BitVec 32 := 1#32
  let v674 : BitVec 32 := Scalar.muli c6_i32_429 c1_i32_430
  let v675 : BitVec 32 := Scalar.addi c0_i32_431 v674
  v675.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_312 : BitVec 32 := 7#32
  let v501 : BitVec 1 := Scalar.cmpi .ne v2 c7_i32_312
  let v502 : BitVec 32 := Scalar.extui v501
  let c0_i32_313 : BitVec 32 := 0#32
  let v503 : BitVec 1 := Scalar.cmpi .ne v502 c0_i32_313
  v503

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev40 : Nat :=
  let c0_i32_431 : BitVec 32 := 0#32
  let c7_i32_429 : BitVec 32 := 7#32
  let c1_i32_430 : BitVec 32 := 1#32
  let v674 : BitVec 32 := Scalar.muli c7_i32_429 c1_i32_430
  let v675 : BitVec 32 := Scalar.addi c0_i32_431 v674
  v675.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_314 : BitVec 32 := 8#32
  let v504 : BitVec 1 := Scalar.cmpi .ne v2 c8_i32_314
  let v505 : BitVec 32 := Scalar.extui v504
  let c0_i32_315 : BitVec 32 := 0#32
  let v506 : BitVec 1 := Scalar.cmpi .ne v505 c0_i32_315
  v506

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev41 : Nat :=
  let c0_i32_431 : BitVec 32 := 0#32
  let c8_i32_429 : BitVec 32 := 8#32
  let c1_i32_430 : BitVec 32 := 1#32
  let v674 : BitVec 32 := Scalar.muli c8_i32_429 c1_i32_430
  let v675 : BitVec 32 := Scalar.addi c0_i32_431 v674
  v675.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_316 : BitVec 32 := 9#32
  let v507 : BitVec 1 := Scalar.cmpi .ne v2 c9_i32_316
  let v508 : BitVec 32 := Scalar.extui v507
  let c0_i32_317 : BitVec 32 := 0#32
  let v509 : BitVec 1 := Scalar.cmpi .ne v508 c0_i32_317
  v509

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev42 : Nat :=
  let c0_i32_431 : BitVec 32 := 0#32
  let c9_i32_429 : BitVec 32 := 9#32
  let c1_i32_430 : BitVec 32 := 1#32
  let v674 : BitVec 32 := Scalar.muli c9_i32_429 c1_i32_430
  let v675 : BitVec 32 := Scalar.addi c0_i32_431 v674
  v675.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_318 : BitVec 32 := 10#32
  let v510 : BitVec 1 := Scalar.cmpi .ne v2 c10_i32_318
  let v511 : BitVec 32 := Scalar.extui v510
  let c0_i32_319 : BitVec 32 := 0#32
  let v512 : BitVec 1 := Scalar.cmpi .ne v511 c0_i32_319
  v512

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev43 : Nat :=
  let c0_i32_431 : BitVec 32 := 0#32
  let c10_i32_429 : BitVec 32 := 10#32
  let c1_i32_430 : BitVec 32 := 1#32
  let v674 : BitVec 32 := Scalar.muli c10_i32_429 c1_i32_430
  let v675 : BitVec 32 := Scalar.addi c0_i32_431 v674
  v675.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_320 : BitVec 32 := 11#32
  let v513 : BitVec 1 := Scalar.cmpi .ne v2 c11_i32_320
  let v514 : BitVec 32 := Scalar.extui v513
  let c0_i32_321 : BitVec 32 := 0#32
  let v515 : BitVec 1 := Scalar.cmpi .ne v514 c0_i32_321
  v515

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev44 : Nat :=
  let c0_i32_431 : BitVec 32 := 0#32
  let c11_i32_429 : BitVec 32 := 11#32
  let c1_i32_430 : BitVec 32 := 1#32
  let v674 : BitVec 32 := Scalar.muli c11_i32_429 c1_i32_430
  let v675 : BitVec 32 := Scalar.addi c0_i32_431 v674
  v675.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_322 : BitVec 32 := 12#32
  let v516 : BitVec 1 := Scalar.cmpi .ne v2 c12_i32_322
  let v517 : BitVec 32 := Scalar.extui v516
  let c0_i32_323 : BitVec 32 := 0#32
  let v518 : BitVec 1 := Scalar.cmpi .ne v517 c0_i32_323
  v518

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev45 : Nat :=
  let c0_i32_431 : BitVec 32 := 0#32
  let c12_i32_429 : BitVec 32 := 12#32
  let c1_i32_430 : BitVec 32 := 1#32
  let v674 : BitVec 32 := Scalar.muli c12_i32_429 c1_i32_430
  let v675 : BitVec 32 := Scalar.addi c0_i32_431 v674
  v675.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_324 : BitVec 32 := 13#32
  let v519 : BitVec 1 := Scalar.cmpi .ne v2 c13_i32_324
  let v520 : BitVec 32 := Scalar.extui v519
  let c0_i32_325 : BitVec 32 := 0#32
  let v521 : BitVec 1 := Scalar.cmpi .ne v520 c0_i32_325
  v521

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev46 : Nat :=
  let c0_i32_431 : BitVec 32 := 0#32
  let c13_i32_429 : BitVec 32 := 13#32
  let c1_i32_430 : BitVec 32 := 1#32
  let v674 : BitVec 32 := Scalar.muli c13_i32_429 c1_i32_430
  let v675 : BitVec 32 := Scalar.addi c0_i32_431 v674
  v675.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_326 : BitVec 32 := 14#32
  let v522 : BitVec 1 := Scalar.cmpi .ne v2 c14_i32_326
  let v523 : BitVec 32 := Scalar.extui v522
  let c0_i32_327 : BitVec 32 := 0#32
  let v524 : BitVec 1 := Scalar.cmpi .ne v523 c0_i32_327
  v524

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev47 : Nat :=
  let c0_i32_431 : BitVec 32 := 0#32
  let c14_i32_429 : BitVec 32 := 14#32
  let c1_i32_430 : BitVec 32 := 1#32
  let v674 : BitVec 32 := Scalar.muli c14_i32_429 c1_i32_430
  let v675 : BitVec 32 := Scalar.addi c0_i32_431 v674
  v675.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_328 : BitVec 32 := 15#32
  let v525 : BitVec 1 := Scalar.cmpi .ne v2 c15_i32_328
  let v526 : BitVec 32 := Scalar.extui v525
  let c0_i32_329 : BitVec 32 := 0#32
  let v527 : BitVec 1 := Scalar.cmpi .ne v526 c0_i32_329
  v527

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_427 : BitVec 32 := 32#32
  let v673 : BitVec 32 := Scalar.muli v2 c32_i32_427
  let c0_i32_432 : BitVec 32 := 0#32
  ![v673.toNat, 0]
def k0_dev48 : Nat :=
  let c0_i32_431 : BitVec 32 := 0#32
  let c15_i32_429 : BitVec 32 := 15#32
  let c1_i32_430 : BitVec 32 := 1#32
  let v674 : BitVec 32 := Scalar.muli c15_i32_429 c1_i32_430
  let v675 : BitVec 32 := Scalar.addi c0_i32_431 v674
  v675.toNat
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_394 : BitVec 32 := 0#32
  let v624 : BitVec 1 := Scalar.cmpi .ne v2 c0_i32_394
  let v625 : BitVec 32 := Scalar.extui v624
  let c0_i32_395 : BitVec 32 := 0#32
  let v626 : BitVec 1 := Scalar.cmpi .ne v625 c0_i32_395
  v626

def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_396 : BitVec 32 := 1#32
  let v627 : BitVec 1 := Scalar.cmpi .ne v2 c1_i32_396
  let v628 : BitVec 32 := Scalar.extui v627
  let c0_i32_397 : BitVec 32 := 0#32
  let v629 : BitVec 1 := Scalar.cmpi .ne v628 c0_i32_397
  v629

def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_398 : BitVec 32 := 2#32
  let v630 : BitVec 1 := Scalar.cmpi .ne v2 c2_i32_398
  let v631 : BitVec 32 := Scalar.extui v630
  let c0_i32_399 : BitVec 32 := 0#32
  let v632 : BitVec 1 := Scalar.cmpi .ne v631 c0_i32_399
  v632

def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_400 : BitVec 32 := 3#32
  let v633 : BitVec 1 := Scalar.cmpi .ne v2 c3_i32_400
  let v634 : BitVec 32 := Scalar.extui v633
  let c0_i32_401 : BitVec 32 := 0#32
  let v635 : BitVec 1 := Scalar.cmpi .ne v634 c0_i32_401
  v635

def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_402 : BitVec 32 := 4#32
  let v636 : BitVec 1 := Scalar.cmpi .ne v2 c4_i32_402
  let v637 : BitVec 32 := Scalar.extui v636
  let c0_i32_403 : BitVec 32 := 0#32
  let v638 : BitVec 1 := Scalar.cmpi .ne v637 c0_i32_403
  v638

def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_404 : BitVec 32 := 5#32
  let v639 : BitVec 1 := Scalar.cmpi .ne v2 c5_i32_404
  let v640 : BitVec 32 := Scalar.extui v639
  let c0_i32_405 : BitVec 32 := 0#32
  let v641 : BitVec 1 := Scalar.cmpi .ne v640 c0_i32_405
  v641

def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_406 : BitVec 32 := 6#32
  let v642 : BitVec 1 := Scalar.cmpi .ne v2 c6_i32_406
  let v643 : BitVec 32 := Scalar.extui v642
  let c0_i32_407 : BitVec 32 := 0#32
  let v644 : BitVec 1 := Scalar.cmpi .ne v643 c0_i32_407
  v644

def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_408 : BitVec 32 := 7#32
  let v645 : BitVec 1 := Scalar.cmpi .ne v2 c7_i32_408
  let v646 : BitVec 32 := Scalar.extui v645
  let c0_i32_409 : BitVec 32 := 0#32
  let v647 : BitVec 1 := Scalar.cmpi .ne v646 c0_i32_409
  v647

def k0_off73 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_410 : BitVec 32 := 8#32
  let v648 : BitVec 1 := Scalar.cmpi .ne v2 c8_i32_410
  let v649 : BitVec 32 := Scalar.extui v648
  let c0_i32_411 : BitVec 32 := 0#32
  let v650 : BitVec 1 := Scalar.cmpi .ne v649 c0_i32_411
  v650

def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_412 : BitVec 32 := 9#32
  let v651 : BitVec 1 := Scalar.cmpi .ne v2 c9_i32_412
  let v652 : BitVec 32 := Scalar.extui v651
  let c0_i32_413 : BitVec 32 := 0#32
  let v653 : BitVec 1 := Scalar.cmpi .ne v652 c0_i32_413
  v653

def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_414 : BitVec 32 := 10#32
  let v654 : BitVec 1 := Scalar.cmpi .ne v2 c10_i32_414
  let v655 : BitVec 32 := Scalar.extui v654
  let c0_i32_415 : BitVec 32 := 0#32
  let v656 : BitVec 1 := Scalar.cmpi .ne v655 c0_i32_415
  v656

def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_416 : BitVec 32 := 11#32
  let v657 : BitVec 1 := Scalar.cmpi .ne v2 c11_i32_416
  let v658 : BitVec 32 := Scalar.extui v657
  let c0_i32_417 : BitVec 32 := 0#32
  let v659 : BitVec 1 := Scalar.cmpi .ne v658 c0_i32_417
  v659

def k0_off77 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_418 : BitVec 32 := 12#32
  let v660 : BitVec 1 := Scalar.cmpi .ne v2 c12_i32_418
  let v661 : BitVec 32 := Scalar.extui v660
  let c0_i32_419 : BitVec 32 := 0#32
  let v662 : BitVec 1 := Scalar.cmpi .ne v661 c0_i32_419
  v662

def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_420 : BitVec 32 := 13#32
  let v663 : BitVec 1 := Scalar.cmpi .ne v2 c13_i32_420
  let v664 : BitVec 32 := Scalar.extui v663
  let c0_i32_421 : BitVec 32 := 0#32
  let v665 : BitVec 1 := Scalar.cmpi .ne v664 c0_i32_421
  v665

def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_422 : BitVec 32 := 14#32
  let v666 : BitVec 1 := Scalar.cmpi .ne v2 c14_i32_422
  let v667 : BitVec 32 := Scalar.extui v666
  let c0_i32_423 : BitVec 32 := 0#32
  let v668 : BitVec 1 := Scalar.cmpi .ne v667 c0_i32_423
  v668

def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_424 : BitVec 32 := 15#32
  let v669 : BitVec 1 := Scalar.cmpi .ne v2 c15_i32_424
  let v670 : BitVec 32 := Scalar.extui v669
  let c0_i32_425 : BitVec 32 := 0#32
  let v671 : BitVec 1 := Scalar.cmpi .ne v670 c0_i32_425
  v671

def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_426 : BitVec 32 := 32#32
  let v672 : BitVec 32 := Scalar.muli v2 c32_i32_426
  let c0_i32_431 : BitVec 32 := 0#32
  ![v672.toNat, 0]
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x2x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x2x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x8192 : Shape := ⟨2, ![768, 8192]⟩
abbrev S8192x768 : Shape := ⟨2, ![8192, 768]⟩
abbrev S2x512x32x64 : Shape := ⟨4, ![2, 512, 32, 64]⟩
abbrev S2x256x8192 : Shape := ⟨3, ![2, 256, 8192]⟩
abbrev S2x256x128x64 : Shape := ⟨4, ![2, 256, 128, 64]⟩
abbrev S2x512x32x4x64 : Shape := ⟨5, ![2, 512, 32, 4, 64]⟩
abbrev S2x512x128x64 : Shape := ⟨4, ![2, 512, 128, 64]⟩
abbrev S2x128x256x512 : Shape := ⟨4, ![2, 128, 256, 512]⟩
abbrev S_ : Shape := ⟨0, ![]⟩
abbrev S2x128x256 : Shape := ⟨3, ![2, 128, 256]⟩
abbrev S2x128x256x1 : Shape := ⟨4, ![2, 128, 256, 1]⟩
abbrev S2x128x64x256 : Shape := ⟨4, ![2, 128, 64, 256]⟩
abbrev S2x256x128x1 : Shape := ⟨4, ![2, 256, 128, 1]⟩
abbrev S512x768 : Shape := ⟨2, ![512, 768]⟩

abbrev nBuf : Space → Nat
  | .hbm => 36
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x8192, .bf16⟩
  | .hbm, ⟨2, _⟩ => ⟨S8192x768, .bf16⟩
  | .hbm, ⟨3, _⟩ => ⟨S2x512x32x64, .bf16⟩
  | .hbm, ⟨4, _⟩ => ⟨S2x512x32x64, .bf16⟩
  | .hbm, ⟨5, _⟩ => ⟨S2x256x8192, .f32⟩
  | .hbm, ⟨6, _⟩ => ⟨S2x256x8192, .bf16⟩
  | .hbm, ⟨7, _⟩ => ⟨S2x256x128x64, .bf16⟩
  | .hbm, ⟨8, _⟩ => ⟨S2x512x32x4x64, .bf16⟩
  | .hbm, ⟨9, _⟩ => ⟨S2x512x128x64, .bf16⟩
  | .hbm, ⟨10, _⟩ => ⟨S2x512x32x4x64, .bf16⟩
  | .hbm, ⟨11, _⟩ => ⟨S2x512x128x64, .bf16⟩
  | .hbm, ⟨12, _⟩ => ⟨S2x128x256x512, .f32⟩
  | .hbm, ⟨13, _⟩ => ⟨S_, .f32⟩
  | .hbm, ⟨14, _⟩ => ⟨S2x128x256x512, .f32⟩
  | .hbm, ⟨15, _⟩ => ⟨S2x128x256x512, .f32⟩
  | .hbm, ⟨16, _⟩ => ⟨S_, .f32⟩
  | .hbm, ⟨17, _⟩ => ⟨S2x128x256, .f32⟩
  | .hbm, ⟨18, _⟩ => ⟨S2x128x256x1, .f32⟩
  | .hbm, ⟨19, _⟩ => ⟨S2x128x256x512, .f32⟩
  | .hbm, ⟨20, _⟩ => ⟨S2x128x256x512, .f32⟩
  | .hbm, ⟨21, _⟩ => ⟨S2x128x256x512, .f32⟩
  | .hbm, ⟨22, _⟩ => ⟨S_, .f32⟩
  | .hbm, ⟨23, _⟩ => ⟨S2x128x256, .f32⟩
  | .hbm, ⟨24, _⟩ => ⟨S2x128x256x1, .f32⟩
  | .hbm, ⟨25, _⟩ => ⟨S2x512x128x64, .f32⟩
  | .hbm, ⟨26, _⟩ => ⟨S2x128x64x256, .f32⟩
  | .hbm, ⟨27, _⟩ => ⟨S2x256x128x64, .f32⟩
  | .hbm, ⟨28, _⟩ => ⟨S2x256x128x1, .f32⟩
  | .hbm, ⟨29, _⟩ => ⟨S2x256x128x64, .f32⟩
  | .hbm, ⟨30, _⟩ => ⟨S2x256x128x64, .f32⟩
  | .hbm, ⟨31, _⟩ => ⟨S2x256x8192, .f32⟩
  | .hbm, ⟨32, _⟩ => ⟨S8192x768, .f32⟩
  | .hbm, ⟨33, _⟩ => ⟨S2x256x768, .f32⟩
  | .hbm, ⟨34, _⟩ => ⟨S2x256x768, .bf16⟩
  | .hbm, ⟨35, _⟩ => ⟨S512x768, .bf16⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Chunks.lean ====
/-
The buffers of the fused attention block with its two exchanges: the sixteen row blocks ("chunks") a 512x768
buffer is exchanged in, where each lies, and what each buffer holds in the course of the kernel.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ShareLeaves
public import Idealize.ShloMosaic.Lib.Tactic

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Algebra: the pipeline's copy of the rounds, and the exchange's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers and their row blocks -/

/-- A 512x768 array of the kernel's format. -/
abbrev Arr (F : FTy → Type) : Type := S512x768.Idx → Elt F .bf16

abbrev outM : Memref sig .tc .vmem S512x768 .bf16 := Memref.whole cc0_stg5_0
abbrev stageM : Memref sig .tc .vmem S512x768 .bf16 := Memref.whole cc0_scratch0
abbrev commM : Memref sig .tc .vmem S512x768 .bf16 := Memref.whole cc0_scratch1

theorem rows_inb (d : Dev nD) : ∀ a, (![32 * d.val, 0] : Fin 2 → ℕ) a + S32x768.size a ≤ S512x768.size a := by
  revert d; decide

/-- The rows `32 d … 32 d + 31`. -/
abbrev rows (d : Dev nD) : Rect S512x768 := Rect.unit (s := S512x768) ![32 * d.val, 0] S32x768.size (rows_inb d)

/-- Chunk `d` of a buffer. -/
abbrev chk (M : Memref sig .tc .vmem S512x768 .bf16) (d : Dev nD) : Memref sig .tc .vmem S32x768 .bf16 := M.slice (rows d) (fun _ => rfl)

/-- Chunk `d` of device `c`'s buffer, held at share `q` with the contents `f` (of the whole buffer). -/
def held (M : Memref sig .tc .vmem S512x768 .bf16) (c d : Dev nD) (q : PosShare TreeShare)
    (f : Buf (Elt F) (M.view.loc (c : Thread nD τ))) : sProp 𝕄 :=
  M.view.loc (c : Thread nD τ) ↦[(chk M d).view.set]{q} f

omit [FloatOps F] in
instance held_storable (M : Memref sig .tc .vmem S512x768 .bf16) (c d : Dev nD) (q : PosShare TreeShare) (f) :
    BI.Storable (upEmb : UEmb _ 𝕄) (held (F := F) M c d q f) := by unfold held; infer_instance

/-- The chunk a row lies in. -/
def rowDev (i : S512x768.Idx) : Dev nD := ⟨(i 0).val / 32, Nat.div_lt_of_lt_mul (i 0).isLt⟩

theorem mem_rows (d : Dev nD) (i : S512x768.Idx) : i ∈ (rows d).set ↔ rowDev i = d := by
  have h1 : (i 1).val < 768 := (i 1).isLt
  rw [Rect.mem_set_unit]
  constructor
  · intro h
    have := h 0
    simp only [Matrix.cons_val_zero] at this
    have e : S32x768.size 0 = 32 := rfl
    exact Fin.ext (by simp only [rowDev]; omega)
  · rintro rfl a
    fin_cases a
    · show 32 * ((i 0).val / 32) ≤ (i 0).val ∧ (i 0).val < 32 * ((i 0).val / 32) + 32
      omega
    · exact ⟨Nat.zero_le _, by simpa using h1⟩

theorem chk_set (M : Memref sig .tc .vmem S512x768 .bf16) (d : Dev nD) : (chk M d).view.set = (rows d).set.map M.view.emb :=
  View.set_slice _ _

theorem chk_disjoint (M : Memref sig .tc .vmem S512x768 .bf16) (d d' : Dev nD) (h : d ≠ d') :
    Disjoint (chk M d).view.set (chk M d').view.set := by
  rw [chk_set, chk_set, Finset.disjoint_map]
  refine Finset.disjoint_left.mpr fun i hi hi' => h ?_
  rw [← (mem_rows d i).mp hi, (mem_rows d' i).mp hi']

theorem chk_cover (M : Memref sig .tc .vmem S512x768 .bf16) (c : Dev nD) :
    Finset.univ.biUnion (fun d => ((chk M d).view.set : Finset (Idx (M.view.loc (c : Thread nD τ))))) = M.view.set := by
  ext x
  rw [Finset.mem_biUnion]
  constructor
  · rintro ⟨d, -, hx⟩
    exact View.set_slice_subset _ _ hx
  · intro hx
    obtain ⟨i, -, rfl⟩ := Finset.mem_map.mp hx
    exact ⟨rowDev i, Finset.mem_univ _, by rw [chk_set]; exact Finset.mem_map_of_mem _ ((mem_rows _ i).mpr rfl)⟩

omit [FloatOps F] in
/-- A buffer held whole is its sixteen chunks. -/
theorem whole_chunks (M : Memref sig .tc .vmem S512x768 .bf16) (c : Dev nD) (q : PosShare TreeShare) (f : Buf (Elt F) (M.view.loc (c : Thread nD τ))) :
    (M.view.loc (c : Thread nD τ) ↦[M.view.set]{q} f : sProp 𝕄) = bigSep Finset.univ fun d => held M c d q f :=
  Ring.pointsTo_sub_blocks (ℓ := M.view.loc (c : Thread nD τ)) (fun d => (chk M d).view.set) (chk_disjoint M) M.view.set (chk_cover M c) f

omit [FloatOps F] in
/-- Chunk `d` is held alike at two contents that read alike through it. -/
theorem held_congr (M : Memref sig .tc .vmem S512x768 .bf16) (c d : Dev nD) (q : PosShare TreeShare) (f g : Buf (Elt F) (M.view.loc (c : Thread nD τ)))
    (h : (chk M d).view.read (Elt F) f = (chk M d).view.read (Elt F) g) : (held M c d q f : sProp 𝕄) = held M c d q g := by
  refine pointsTo_congr fun i hi => ?_
  obtain ⟨x, -, rfl⟩ := Finset.mem_map.mp hi
  have := congrFun h x
  rw [View.read_apply, View.read_apply] at this
  exact (_root_.cast_inj _).mp this

omit [FloatOps F] in
/-- What a copy leaves in the chunk it lands in reads as its source's. -/
theorem read_write (M : Memref sig .tc .vmem S512x768 .bf16) (d : Dev nD) (f : M.view.ty.Contents (Elt F)) (w : S32x768.Idx → Elt F .bf16) :
    (chk M d).view.read (Elt F) ((chk M d).view.write (Elt F) f w Finset.univ) = w := by
  funext x
  rw [View.read_apply]
  refine (congrArg _ (View.write_emb_of_mem (v := (chk M d).view) f w (Finset.mem_univ x))).trans ?_
  exact cast_cast _ _ _

/-! ## What the buffers hold -/

/-- Row `r` of chunk `d`. -/
def rowAt (d : Dev nD) (j : S32x768.Idx) : S512x768.Idx := (rows d).emb j

/-- A row's place inside its chunk. -/
def inRow (i : S512x768.Idx) : S32x768.Idx :=
  fun a => match a with
    | ⟨0, _⟩ => ⟨(i 0).val % 32, Nat.mod_lt _ (by decide)⟩
    | ⟨1, _⟩ => ⟨(i 1).val, (i 1).isLt⟩

theorem rowDev_rowAt (d : Dev nD) (j : S32x768.Idx) : rowDev (rowAt d j) = d :=
  (mem_rows d _).mp ((rows d).idx_mem j)

theorem inRow_rowAt (d : Dev nD) (j : S32x768.Idx) : inRow (rowAt d j) = j := by
  have h0 : (j 0).val < 32 := (j 0).isLt
  funext a
  fin_cases a
  · refine Fin.ext ?_
    show (32 * d.val + 1 * (j 0).val) % 32 = (j 0).val
    omega
  · refine Fin.ext ?_
    show 0 + 1 * (j 1).val = (j 1).val
    omega

theorem rowAt_inRow (i : S512x768.Idx) : rowAt (rowDev i) (inRow i) = i := by
  funext a
  fin_cases a
  · refine Fin.ext ?_
    show 32 * ((i 0).val / 32) + 1 * ((i 0).val % 32) = (i 0).val
    omega
  · refine Fin.ext ?_
    show 0 + 1 * (i 1).val = (i 1).val
    omega

/-- Device `c`'s gathered partial products: chunk `d` is chunk `c` of what device `d` computed. -/
def gathered (PA : Dev nD → Arr F) (c : Dev nD) : Arr F := fun i => PA (rowDev i) (rowAt c (inRow i))

/-- Device `c`'s chunk of the result: the sum over the devices of their chunks `c`. -/
def summed (PA : Dev nD → Arr F) (c : Dev nD) : S32x768.Idx → Elt F .bf16 := k0_pay39 (gathered PA c)

/-- The result every device ends with: chunk `d` is the one device `d` summed. -/
def result (PA : Dev nD → Arr F) : Arr F := fun i => summed PA (rowDev i) (inRow i)

omit [FloatOps F] in
theorem read_chk_stage (d : Dev nD) (f : Arr F) : (chk stageM d).view.read (Elt F) f = fun j => f (rowAt d j) := rfl
omit [FloatOps F] in
theorem read_chk_comm (d : Dev nD) (f : Arr F) : (chk commM d).view.read (Elt F) f = fun j => f (rowAt d j) := rfl
omit [FloatOps F] in
theorem read_chk_out (d : Dev nD) (f : Arr F) : (chk outM d).view.read (Elt F) f = fun j => f (rowAt d j) := rfl

omit [FloatOps F] in
/-- Chunk `d` of what `c` gathers is chunk `c` of device `d`'s product. -/
theorem read_gathered (PA : Dev nD → Arr F) (c d : Dev nD) :
    (chk commM d).view.read (Elt F) (gathered PA c) = (chk stageM c).view.read (Elt F) (PA d) := by
  rw [read_chk_comm, read_chk_stage]
  funext j
  rw [gathered, rowDev_rowAt, inRow_rowAt]

theorem read_result (PA : Dev nD → Arr F) (d : Dev nD) : (chk outM d).view.read (Elt F) (result PA) = summed PA d := by
  rw [read_chk_out]
  funext j
  rw [result, rowDev_rowAt, inRow_rowAt]

end Cert.Fused
-- ==== Proof.Attn.lean ====
/-
What one device computes from its own windows: the partial product of its eight heads, which it then hands out in chunks.
-/
module

public import proofs.«01_k».proof.Proof.Chunks

@[expose] public section

set_option maxRecDepth 65536
set_option maxHeartbeats 4000000

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The five windows of one device: the two batches of activations, its query columns, its output rows, its keys and values. -/
structure Ins (F : FTy → Type) where
  x : S2x256x768.Idx → Elt F .bf16
  wq : S768x512.Idx → Elt F .bf16
  wo : S512x768.Idx → Elt F .bf16
  k : S2x512x2x64.Idx → Elt F .bf16
  v : S2x512x2x64.Idx → Elt F .bf16

variable (I : Ins F)

/-- Batch `b` of the activations, -/
abbrev xRect (b : Fin 2) : Rect S2x256x768 := Rect.unit (s := S2x256x768) ![b.val, 0, 0] S1x256x768.size (by revert b; decide)
def xAt (b : Fin 2) : Vec F S1x256x768 .bf16 := fun j => I.x ((xRect b).emb j)
/-- and group `g` of the keys or values of batch `b`. -/
abbrev kvRect (b g : Fin 2) : Rect S2x512x2x64 := Rect.unit (s := S2x512x2x64) ![b.val, 0, g.val, 0] S1x512x1x64.size (by revert b g; decide)
def kvAt (f : S2x512x2x64.Idx → Elt F .bf16) (b g : Fin 2) : Vec F S1x512x1x64 .bf16 := fun j => f ((kvRect b g).emb j)

/-- The scaled queries of batch `b`. -/
def queries (b : Fin 2) : FVec F S256x512 .bf16 := k0_pay29 (k0_pay1 I.wq) (xAt I b)

theorem slices_at (h : Fin 8) : S256x512.Slices ![0, 64 * h.val] S256x64 := by revert h; decide

/-- The exponentials of one head's scores, each row's maximum taken off, -/
def weights (h : Fin 8) (q : FVec F S256x512 .bf16) (k : Vec F S1x512x1x64 .bf16) : FVec F S256x512 .f32 :=
  have s : FVec F S256x512 .f32 := matmul dot_S256x64_S512x64_S256x512_1_1_0_0_n_n none
    (extractStridedSlice S256x64 ![0, 64 * h.val] q (slices_at h)) (shapeCast S512x64 k shapeCasts_S1x512x1x64_S512x64 : FVec F S512x64 .bf16) (constant S256x512 .f32 0x00000000#32)
  exp (subf s (broadcastTo S256x512 (shapeCast S256x1 (multiReduction .maximumf [1] S256 s 0xFF800000#32 reduces_S256x512_S256 (.inl rfl) rfl)
    shapeCasts_S256_S256x1) broadcasts_S256x1_S256x512))

/-- and the head: the values weighted by them, over their sum. -/
def headOf (h : Fin 8) (q : FVec F S256x512 .bf16) (k v : Vec F S1x512x1x64 .bf16) : FVec F S256x64 .bf16 :=
  have w : FVec F S256x512 .f32 := weights h q k
  truncf .bf16 (divf (matmul dot_S256x512_S512x64_S256x64_1_0_0_1_n_n none (truncf .bf16 w bitsLt_bf16_f32 : FVec F S256x512 .bf16)
      (shapeCast S512x64 v shapeCasts_S1x512x1x64_S512x64 : FVec F S512x64 .bf16) (constant S256x64 .f32 0x00000000#32))
    (broadcastTo S256x64 (shapeCast S256x1 (multiReduction .add [1] S256 w 0x00000000#32 reduces_S256x512_S256 (.inl rfl) rfl)
      shapeCasts_S256_S256x1) broadcasts_S256x1_S256x64)) bitsLt_bf16_f32

/-- Heads zero to three share the first group of keys and values, four to seven the second. -/
abbrev grp (h : Fin 8) : Fin 2 := ⟨h.val / 4, by omega⟩

/-- Head `h` of batch `b`, -/
def head (b : Fin 2) (h : Fin 8) : FVec F S256x64 .bf16 := headOf h (queries I b) (kvAt I.k b (grp h)) (kvAt I.v b (grp h))
/-- its weights in the narrow format, -/
def narrow (b : Fin 2) (h : Fin 8) : FVec F S256x512 .bf16 := truncf .bf16 (weights h (queries I b) (kvAt I.k b (grp h))) bitsLt_bf16_f32
/-- their rows' sums, -/
def sums (b : Fin 2) (h : Fin 8) : FVec F S256x1 .f32 :=
  shapeCast S256x1 (multiReduction .add [1] S256 (weights h (queries I b) (kvAt I.k b (grp h))) 0x00000000#32 reduces_S256x512_S256 (.inl rfl) rfl) shapeCasts_S256_S256x1
/-- and its values. -/
def vals (b : Fin 2) (h : Fin 8) : FVec F S512x64 .bf16 := shapeCast S512x64 (kvAt I.v b (grp h)) shapeCasts_S1x512x1x64_S512x64

/-- Eight heads side by side, through the output rows. -/
def mixOf (wo : FVec F S512x768 .bf16) (hd : Fin 8 → FVec F S256x64 .bf16) : FVec F S256x768 .bf16 :=
  shapeCast S256x768 (truncf .bf16 (matmul dot_S256x512_S512x768_S256x768_1_0_0_1_n_n none
    (concatenate S256x512 1 [⟨S256x64, hd 0⟩, ⟨S256x64, hd 1⟩, ⟨S256x64, hd 2⟩, ⟨S256x64, hd 3⟩, ⟨S256x64, hd 4⟩, ⟨S256x64, hd 5⟩, ⟨S256x64, hd 6⟩, ⟨S256x64, hd 7⟩]
      concatenates_S256x64_S256x64_S256x64_S256x64_S256x64_S256x64_S256x64_S256x64_S256x512_d1)
    wo (constant S256x768 .f32 0x00000000#32)) bitsLt_bf16_f32 : FVec F S256x768 .bf16) shapeCasts_S256x768_S256x768

/-- Batch `b`'s half of the partial product. -/
def half (b : Fin 2) : FVec F S256x768 .bf16 := mixOf (k0_pay2 I.wo) (head I b)

/-- The half a row of the product lies in, and where in it. -/
abbrev halfRect (b : Fin 2) : Rect S512x768 := Rect.unit (s := S512x768) ![256 * b.val, 0] S256x768.size (by revert b; decide)
def batchOf (i : S512x768.Idx) : Fin 2 := ⟨(i 0).val / 256, Nat.div_lt_of_lt_mul (i 0).isLt⟩
def inHalf (i : S512x768.Idx) : S256x768.Idx := fun a => match a with
  | ⟨0, _⟩ => (⟨(i 0).val % 256, Nat.mod_lt _ (by decide)⟩ : Fin 256)
  | ⟨1, _⟩ => (i 1 : Fin 768)

/-- The device's partial product. -/
def product : Arr F := fun i => half I (batchOf i) (inHalf i)

end Cert.Fused
-- ==== Proof.Schedule.lean ====
/-
The protocol of the exchange: which semaphore is raised by whom, what each raise hands over, and the order in which
waits may be made.

A device `c` owns a barrier cell (raised once by every peer) and, for each peer `d`, four transfer cells:
bank 0 — the peer's partial-product chunk has landed in `comm`;  bank 1 — its own chunk for the peer has left `stage`;
bank 2 — the peer's summed chunk has landed in the result;       bank 3 — its own summed chunk has left for the peer.
-/
module

public import proofs.«01_k».proof.Proof.Chunks

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The runtime's barrier semaphore of the kernel's collective id. -/
abbrev barS : Sem sig := (SemArray.scalar (sig.barrier 0 rfl) : Sems sig S_).sem

/-- The transfer semaphore of bank `k` for peer `d`. -/
def dsem (k : Fin 4) (d : Dev nD) : DmaSem sig := ⟨6 + 16 * k.val + d.val, by
  have := k.isLt; have h : d.val < 16 := d.isLt; show _ < 70; omega⟩

/-- The bank a transfer semaphore is in, counted from one (zero: the pipeline's own); -/
def bank (q : DmaSem sig) : ℕ := (q.val + 10) / 16
/-- and the peer it is for. -/
def slot (q : DmaSem sig) : Dev nD := ⟨(q.val + 10) % 16, Nat.mod_lt _ (by decide)⟩

theorem bank_dsem (k : Fin 4) (d : Dev nD) : bank (dsem k d) = k.val + 1 := by
  have h : d.val < 16 := d.isLt
  show (6 + 16 * k.val + d.val + 10) / 16 = _
  omega
theorem slot_dsem (k : Fin 4) (d : Dev nD) : slot (dsem k d) = d := by
  have h : d.val < 16 := d.isLt
  refine Fin.ext ?_
  show (6 + 16 * k.val + d.val + 10) % 16 = _
  omega

/-- The kernel's cells of one device: the barrier and the transfer cells. -/
abbrev CI : Type := Option (Fin 4 × Dev nD)
abbrev csem : CI → SemLoc sig := fun | none => .reg barS | some (k, d) => .dma (dsem k d)
abbrev kcell (p : Dev nD × CI) : GSem nD τ sig := ((p.1 : Thread nD τ), csem p.2)
abbrev barCell (c : Dev nD) : GSem nD τ sig := kcell (c, none)
abbrev dcell (c : Dev nD) (k : Fin 4) (d : Dev nD) : GSem nD τ sig := kcell (c, some (k, d))

theorem dsem_inj {k k' : Fin 4} {d d' : Dev nD} (h : dsem k d = dsem k' d') : k = k' ∧ d = d' := by
  have hb := congrArg bank h
  have hs := congrArg slot h
  rw [bank_dsem, bank_dsem] at hb
  rw [slot_dsem, slot_dsem] at hs
  exact ⟨Fin.ext (by omega), hs⟩

theorem csem_inj : Function.Injective csem := by
  rintro (_ | ⟨k, d⟩) (_ | ⟨k', d'⟩) h
  · rfl
  · cases h
  · cases h
  · obtain ⟨rfl, rfl⟩ := dsem_inj (SemLoc.dma.inj h); rfl

theorem kcell_inj : Function.Injective kcell := by
  rintro ⟨c, x⟩ ⟨c', x'⟩ h
  have h1 : (c : Thread nD τ) = (c' : Thread nD τ) := congrArg Prod.fst h
  have h2 := csem_inj (congrArg Prod.snd h)
  have h3 : c = c' := congrArg Prod.fst h1
  dsimp only at h2
  rw [h2, h3]

/-! ## What is handed over -/

/-- A chunk's transfer credit. -/
abbrev N : ℕ := (chk commM (0 : Fin 16)).view.dmaCredit
theorem N_pos : 0 < N := View.dmaCredit_pos _ (by decide)

variable (PA : Dev nD → Arr F)

/-- What raising the cell of bank `k` for `d` hands device `c`. -/
def bankPay (c : Dev nD) (b : ℕ) (d : Dev nD) : sProp 𝕄 :=
  if b = 1 then held commM c d fullShare (gathered PA c)
  else if b = 2 then held stageM c d fullShare (PA c)
  else if b = 3 then held outM c d fullShare (result PA)
  else if b = 4 then held outM c c (ShareLeaves.leaf 4 fullShare (d : Fin 16)) (result PA)
  else iprop(emp)

/-- What peer `d`'s barrier signal hands device `c`: the chunks `c` of `d`'s landing buffer and of `d`'s result. -/
def barPay (c d : Dev nD) : sProp 𝕄 := iprop((∃ f, held commM d c fullShare f) ∗ ∃ f, held outM d c fullShare f)

/-- One round: the barrier cell has a duty of each peer, the transfer cell for `d` the one duty of `d`. -/
def sched : Rounds.Schedule (GSem nD τ sig) (Dev nD) 𝕄 where
  duties g r := if r = 0 ∧ g.1.2 = .tc then
      (match g.2 with
        | .reg s => if s = barS then Finset.univ.erase g.1.1 else ∅
        | .dma q => if bank q = 0 ∨ slot q = g.1.1 then ∅ else {slot q})
    else ∅
  unitless _ := False
  amount g _ _ := match g.2 with
    | .reg _ => 1
    | .dma _ => N
  payload g _ d := match g.2 with
    | .reg _ => barPay g.1.1 d
    | .dma q => bankPay PA g.1.1 (bank q) d
  amount_pos g _ _ _ := by
    rcases g with ⟨t, s | q⟩
    · exact Nat.one_pos
    · exact N_pos

instance sched_storable (g : GSem nD τ sig) (r : ℕ) (d : Dev nD) : BI.Storable (upEmb : UEmb _ 𝕄) ((sched PA).payload g r d) := by
  rcases g with ⟨t, s | q⟩
  · show BI.Storable upEmb (barPay t.1 d)
    unfold barPay; infer_instance
  · show BI.Storable upEmb (bankPay PA t.1 (bank q) d)
    unfold bankPay
    (repeat' split) <;> infer_instance

section Tables
variable (c : Dev nD)

theorem duties_zero (sm : SemLoc sig) : (sched PA).duties ((c : Thread nD τ), sm) 0 = (match sm with
      | .reg s => if s = barS then Finset.univ.erase c else ∅
      | .dma q => if bank q = 0 ∨ slot q = c then ∅ else {slot q}) := by
  dsimp only [sched]
  exact if_pos ⟨rfl, rfl⟩

theorem duties_bar : (sched PA).duties (barCell c) 0 = Finset.univ.erase c := by
  rw [duties_zero]
  exact if_pos rfl

theorem duties_dma {k : Fin 4} {d : Dev nD} (h : d ≠ c) : (sched PA).duties (dcell c k d) 0 = {d} := by
  rw [duties_zero]
  show (if bank (dsem k d) = 0 ∨ slot (dsem k d) = c then ∅ else {slot (dsem k d)}) = _
  rw [bank_dsem, slot_dsem, if_neg (fun h' => h'.elim (by omega) h)]

theorem duties_own (k : Fin 4) : (sched PA).duties (dcell c k c) 0 = ∅ := by
  rw [duties_zero]
  show (if bank (dsem k c) = 0 ∨ slot (dsem k c) = c then ∅ else {slot (dsem k c)}) = _
  rw [if_pos (Or.inr (slot_dsem k c))]

theorem duties_later (g : GSem nD τ sig) : ∀ r, 1 ≤ r → (sched PA).duties g r = ∅ :=
  fun r hr => if_neg fun h => by omega

theorem duties_own_all (k : Fin 4) : ∀ r, 0 ≤ r → (sched PA).duties (dcell c k c) r = ∅ := fun r _ => by
  rcases Nat.eq_zero_or_pos r with rfl | h
  · exact duties_own PA c k
  · exact duties_later PA _ r h

theorem expect_bar : (sched PA).expect (barCell c) 0 = 15 := by
  unfold Schedule.expect Schedule.amountOf
  rw [duties_bar]
  show ∑ _d ∈ Finset.univ.erase c, 1 = 15
  rw [Finset.sum_const, Finset.card_erase_of_mem (Finset.mem_univ _)]
  rfl

theorem expect_dma {k : Fin 4} {d : Dev nD} (h : d ≠ c) : (sched PA).expect (dcell c k d) 0 = N := by
  unfold Schedule.expect Schedule.amountOf
  rw [duties_dma PA c h, Finset.sum_singleton]
  rfl

theorem payload_bar (d : Dev nD) : (sched PA).payload (barCell c) 0 d = barPay c d := rfl
theorem payload_dma (k : Fin 4) (d d' : Dev nD) : (sched PA).payload (dcell c k d) 0 d' = bankPay PA c (k.val + 1) d' := by
  show bankPay PA c (bank (dsem k d)) d' = _
  rw [bank_dsem]

theorem rest_bar : bigSep ((sched PA).duties (barCell c) 0 \ ∅) (fun d => (sched PA).payload (barCell c) 0 d)
    = bigSep (Finset.univ.erase c) (fun d => barPay c d) := by
  rw [Finset.sdiff_empty, duties_bar]; rfl
theorem rest_dma {k : Fin 4} {d : Dev nD} (h : d ≠ c) :
    bigSep ((sched PA).duties (dcell c k d) 0 \ ∅) (fun d' => (sched PA).payload (dcell c k d) 0 d') = bankPay PA c (k.val + 1) d := by
  rw [Finset.sdiff_empty, duties_dma PA c h, bigSep_singleton, payload_dma]

end Tables

/-! ## The peers still to serve and those served, in the kernel's order `0, 1, …, 15` -/

/-- The peers of `c` numbered `i` and up; -/
def todo (c : Dev nD) (i : ℕ) : Finset (Dev nD) := Finset.univ.filter fun d => d ≠ c ∧ i ≤ d.val
/-- those numbered below `i`. -/
def did (c : Dev nD) (i : ℕ) : Finset (Dev nD) := Finset.univ.filter fun d => d ≠ c ∧ d.val < i

theorem todo_step {c d : Dev nD} (h : d ≠ c) : todo c d.val = insert d (todo c (d.val + 1)) := by
  ext x
  simp only [todo, Finset.mem_filter, Finset.mem_univ, true_and, Finset.mem_insert]
  constructor
  · rintro ⟨h1, h2⟩
    rcases Nat.eq_or_lt_of_le h2 with e | e
    · exact Or.inl (Fin.ext e.symm)
    · exact Or.inr ⟨h1, e⟩
  · rintro (rfl | ⟨h1, h2⟩)
    · exact ⟨h, le_rfl⟩
    · exact ⟨h1, by omega⟩
theorem todo_not_mem (c d : Dev nD) : d ∉ todo c (d.val + 1) := by
  simp only [todo, Finset.mem_filter, Finset.mem_univ, true_and, not_and]
  intro _; omega
theorem todo_skip (c : Dev nD) : todo c (c.val + 1) = todo c c.val := by
  ext x
  simp only [todo, Finset.mem_filter, Finset.mem_univ, true_and]
  constructor
  · rintro ⟨h1, h2⟩; exact ⟨h1, by omega⟩
  · rintro ⟨h1, h2⟩
    exact ⟨h1, Nat.lt_of_le_of_ne h2 fun e => h1 (Fin.ext e.symm)⟩
theorem did_step {c d : Dev nD} (h : d ≠ c) : did c (d.val + 1) = insert d (did c d.val) := by
  ext x
  simp only [did, Finset.mem_filter, Finset.mem_univ, true_and, Finset.mem_insert]
  constructor
  · rintro ⟨h1, h2⟩
    rcases Nat.eq_or_lt_of_le (Nat.le_of_lt_succ h2) with e | e
    · exact Or.inl (Fin.ext e)
    · exact Or.inr ⟨h1, e⟩
  · rintro (rfl | ⟨h1, h2⟩)
    · exact ⟨h, Nat.lt_succ_self _⟩
    · exact ⟨h1, by omega⟩
theorem did_not_mem (c d : Dev nD) : d ∉ did c d.val := by
  simp only [did, Finset.mem_filter, Finset.mem_univ, true_and, not_and]
  intro _; omega
theorem did_skip (c : Dev nD) : did c (c.val + 1) = did c c.val := by
  ext x
  simp only [did, Finset.mem_filter, Finset.mem_univ, true_and]
  constructor
  · rintro ⟨h1, h2⟩
    exact ⟨h1, Nat.lt_of_le_of_ne (Nat.le_of_lt_succ h2) fun e => h1 (Fin.ext e)⟩
  · rintro ⟨h1, h2⟩; exact ⟨h1, by omega⟩
theorem todo_zero (c : Dev nD) : todo c 0 = Finset.univ.erase c := by
  ext x
  simp [todo]
theorem todo_end (c : Dev nD) : todo c 16 = ∅ := by
  ext x
  have h : x.val < 16 := x.isLt
  simp only [todo, Finset.mem_filter, Finset.mem_univ, true_and, Finset.notMem_empty, iff_false, not_and]
  intro _; omega
theorem did_zero (c : Dev nD) : did c 0 = ∅ := by
  ext x
  simp [did]
theorem did_end (c : Dev nD) : did c 16 = Finset.univ.erase c := by
  ext x
  have h : x.val < 16 := x.isLt
  simp only [did, Finset.mem_filter, Finset.mem_univ, true_and, Finset.mem_erase, and_true, and_iff_left_iff_imp]
  intro _; exact h

/-! ## What a device owes -/

/-- The units device `c` still owes the peers from `i` up: one on each barrier cell; -/
def oweB (c : Dev nD) (i : ℕ) : CellTallies nD τ sig Unit := ∑ d ∈ todo c i, tallyAt (barCell d) () 1
/-- a chunk's credit on each one's cell of bank `k` for `c`. -/
def oweT (k : Fin 4) (c : Dev nD) (i : ℕ) : CellTallies nD τ sig Unit := ∑ d ∈ todo c i, tallyAt (dcell d k c) () N

/-- All a device owes at launch. -/
def O₀ (c : Dev nD) : CellTallies nD τ sig Unit := oweT 2 c 0 + oweT 0 c 0 + oweB c 0

theorem oweB_step {c d : Dev nD} (h : d ≠ c) : oweB c d.val = oweB c (d.val + 1) + tallyAt (barCell d) () 1 := by
  unfold oweB; rw [todo_step h, Finset.sum_insert (todo_not_mem c d), add_comm]
theorem oweT_step (k : Fin 4) {c d : Dev nD} (h : d ≠ c) : oweT k c d.val = oweT k c (d.val + 1) + tallyAt (dcell d k c) () N := by
  unfold oweT; rw [todo_step h, Finset.sum_insert (todo_not_mem c d), add_comm]
theorem oweB_skip (c : Dev nD) : oweB c (c.val + 1) = oweB c c.val := by unfold oweB; rw [todo_skip]
theorem oweT_skip (k : Fin 4) (c : Dev nD) : oweT k c (c.val + 1) = oweT k c c.val := by unfold oweT; rw [todo_skip]
theorem oweB_end (c : Dev nD) : oweB c 16 = 0 := by unfold oweB; rw [todo_end, Finset.sum_empty]
theorem oweT_end (k : Fin 4) (c : Dev nD) : oweT k c 16 = 0 := by unfold oweT; rw [todo_end, Finset.sum_empty]

/-! ## Levels: the barrier cells at 1, the landing cells of bank 0 at 2, those of bank 2 at 3, everything else at 0 -/

def L (g : GSem nD τ sig) : Finset Unit := if g.1.2 = .tc then {()} else ∅
def lv (g : GSem nD τ sig) (_ : Unit) : ℕ := match g.2 with
  | .reg s => if s = barS then 1 else 0
  | .dma q => if bank q = 1 then 2 else if bank q = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by
  show (if barS = barS then 1 else 0) = 1
  exact if_pos rfl
theorem lv_zero (c d : Dev nD) : lv (dcell c 0 d) () = 2 := by
  show (if bank (dsem 0 d) = 1 then 2 else if bank (dsem 0 d) = 3 then 3 else 0) = 2
  rw [bank_dsem]; rfl
theorem lv_two (c d : Dev nD) : lv (dcell c 2 d) () = 3 := by
  show (if bank (dsem 2 d) = 1 then 2 else if bank (dsem 2 d) = 3 then 3 else 0) = 3
  rw [bank_dsem]; rfl

theorem sum_tally_pos {ι : Type} (s : Finset ι) (f : ι → GSem nD τ sig) (n : ℕ) {g : GSem nD τ sig} {u : Unit}
    (h : 0 < (∑ x ∈ s, tallyAt (Ix := Unit) (f x) () n) g u) : ∃ x ∈ s, g = f x := by
  classical
  induction s using Finset.induction_on with
  | empty => rw [Finset.sum_empty] at h; exact absurd h (Nat.lt_irrefl 0)
  | insert a s ha ih =>
    rw [Finset.sum_insert ha, Pi.add_apply, Finsupp.add_apply, tallyAt_apply] at h
    by_cases e : g = f a
    · exact ⟨a, Finset.mem_insert_self _ _, e⟩
    · rw [if_neg (fun h' => e h'.1), Nat.zero_add] at h
      obtain ⟨x, hx, e'⟩ := ih h
      exact ⟨x, Finset.mem_insert_of_mem hx, e'⟩

theorem oweB_pos {c : Dev nD} {i : ℕ} {g : GSem nD τ sig} {u : Unit} (h : 0 < oweB c i g u) : ∃ d, g = barCell d := by
  obtain ⟨d, -, e⟩ := sum_tally_pos _ _ _ h; exact ⟨d, e⟩
theorem oweT_pos {k : Fin 4} {c : Dev nD} {i : ℕ} {g : GSem nD τ sig} {u : Unit} (h : 0 < oweT k c i g u) : ∃ d, g = dcell d k c := by
  obtain ⟨d, -, e⟩ := sum_tally_pos _ _ _ h; exact ⟨d, e⟩

/-- A wait at a level below everything still owed may be made. -/
theorem mayWait_below (c : Dev nD) (sm : SemLoc sig) (n : ℕ) (hn : lv ((c : Thread nD τ), sm) () ≤ n) (O : CellTallies nD τ sig Unit)
    (hO : ∀ g u, 0 < O g u → (∃ (d : Dev nD) (sm' : SemLoc sig), g = ((d : Thread nD τ), sm')) ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      obtain ⟨⟨d, sm', rfl⟩, -⟩ := hO g u hg
      rw [L_tc]; exact Finset.mem_singleton_self _)
    (fun p hp => by rw [Finset.mem_singleton.mp hp]; exact hn)
    (fun g u hg => (hO g u hg).2)

/-- Before the launch's staging waits everything is owed, at levels above theirs. -/
theorem mayWait_stage (c : Dev nD) (q : DmaSem sig) (hq : bank q = 0) (O : CellTallies nD τ sig Unit) (hO : O = O₀ c ∨ O = 0) :
    (levAts L lv : sProp 𝕄) ⊢ MayWait (c : Thread nD τ) (.dma q) () O := by
  rcases hO with rfl | rfl
  · refine mayWait_below c _ 0 (by show (if bank q = 1 then 2 else if bank q = 3 then 3 else 0) ≤ 0; rw [hq]; decide) _ fun g u hg => ?_
    unfold O₀ at hg
    rw [Pi.add_apply, Finsupp.add_apply, Pi.add_apply, Finsupp.add_apply] at hg
    rcases Nat.eq_zero_or_pos (oweB c 0 g u) with h1 | h1
    · rcases Nat.eq_zero_or_pos (oweT 0 c 0 g u) with h2 | h2
      · obtain ⟨d, rfl⟩ := oweT_pos (k := 2) (c := c) (i := 0) (g := g) (u := u) (by omega)
        exact ⟨⟨d, _, rfl⟩, by rw [lv_two]; decide⟩
      · obtain ⟨d, rfl⟩ := oweT_pos h2
        exact ⟨⟨d, _, rfl⟩, by rw [lv_zero]; decide⟩
    · obtain ⟨d, rfl⟩ := oweB_pos h1
      exact ⟨⟨d, _, rfl⟩, by rw [lv_bar]; decide⟩
  · rw [MayWait_zero]; iintro -; iempintro

/-- At its barrier wait a device owes landings of banks 0 and 2; -/
theorem mayWait_bar (c : Dev nD) : (levAts L lv : sProp 𝕄) ⊢ MayWait (c : Thread nD τ) (.reg barS) () (oweT 2 c 0 + oweT 0 c 0) :=
  mayWait_below c _ 1 (lv_bar c).le _ fun g u hg => by
    rw [Pi.add_apply, Finsupp.add_apply] at hg
    rcases Nat.eq_zero_or_pos (oweT 0 c 0 g u) with h2 | h2
    · obtain ⟨d, rfl⟩ := oweT_pos (k := 2) (c := c) (i := 0) (g := g) (u := u) (by omega)
      exact ⟨⟨d, _, rfl⟩, by rw [lv_two]; decide⟩
    · obtain ⟨d, rfl⟩ := oweT_pos h2
      exact ⟨⟨d, _, rfl⟩, by rw [lv_zero]; decide⟩

/-- at its waits for bank 0's landings those of bank 2 only. -/
theorem mayWait_land (c d : Dev nD) : (levAts L lv : sProp 𝕄) ⊢ MayWait (c : Thread nD τ) (.dma (dsem 0 d)) () (oweT 2 c 0) :=
  mayWait_below c _ 2 (lv_zero c d).le _ fun g u hg => by
    obtain ⟨d, rfl⟩ := oweT_pos hg
    exact ⟨⟨d, _, rfl⟩, by rw [lv_two]; decide⟩

/-! ## The persistent records: every cell's invariant, and that it has reached round 0 -/

def records (K : Dev nD × CI → ℕ) : sProp 𝕄 :=
  bigSep Finset.univ fun p : Dev nD × CI => iprop(cellInv ER (sched PA) (K p) (kcell p) ∗ reached ER (kcell p) 0)

instance records_persistent (K : Dev nD × CI → ℕ) : BI.Persistent (records PA K) := by unfold records; infer_instance

theorem records_at (K : Dev nD × CI → ℕ) (p : Dev nD × CI) :
    records PA K ⊢ iprop(cellInv ER (sched PA) (K p) (kcell p) ∗ reached ER (kcell p) 0) := by
  unfold records; exact bigSep_elim (Finset.mem_univ p)

end Cert.Fused
-- ==== Proof.Steps.lean ====
/-
One iteration of each of the kernel's loops over the peers, once for every device and every peer: the guard `d ≠ c`, the
effect, and what it does to the state of the loop. A loop's state is what the device still owes, what it still holds for
the peers to come, and what it has got for the peers behind it.
-/
module

public import proofs.«01_k».proof.Proof.Schedule

@[expose] public section

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of the kernel, and its weakest precondition on device `c`. -/
abbrev KProg (F : FTy → Type) (α : Type) : Type 1 := Prog (TpuEff nD τ sig (Elt F) Λ₀ .tc) α
abbrev kwp (c : Dev nD) {α : Type} (p : KProg F α) (Q : α → sProp 𝕄) : sProp 𝕄 :=
  wp frame (wpE (defs₀ (F := F)) 𝒱₀ (c : Thread nD τ) none) Set.univ p Q

/-! ## The guard, the semaphores and the chunks as the program spells them -/

/-- The device's number, as the kernel computes it. -/
abbrev v2of (c : Dev nD) : BitVec 32 := Scalar.remsi (Scalar.divsi (Dev.word c) 1#32) 16#32

/-- The number of peer `d` differs from the device's: the loops' guard. -/
theorem guard (c d : Dev nD) :
    Scalar.cmpi .ne (Scalar.extui (Scalar.cmpi .ne (v2of c) (BitVec.ofNat 32 d.val)) : BitVec 32) 0#32 = 1#1 ↔ d ≠ c := by
  revert c d; decide

theorem bank_fits : ∀ k : Fin 4, 6 + 16 * k.val + S16.numel ≤ sig.nDmaSem := by decide

/-- Entry `d` of bank `k`'s semaphore array. -/
theorem sem_at (k : Fin 4) (d : Dev nD) {o : Fin 1 → ℕ} (ho : o = ![d.val]) (A : DmaSems sig S16)
    (hA : A = SemArray.consecutive (6 + 16 * k.val) S16 (bank_fits k)) (inb) (sq) :
    (((A.slice (Rect.unit (s := S16) o S1.size inb)).squeeze S_ sq).sem : DmaSem sig) = dsem k d := by
  subst ho hA
  revert k d; decide

/-! ## The loops' state -/

variable (PA : Dev nD → Arr F) (K : Dev nD × CI → ℕ)

/-- What every iteration may use: the cells' records and the levels. -/
def pers : sProp 𝕄 := iprop(records PA K ∗ levAts L lv)

instance pers_persistent : BI.Persistent (pers PA K) := by unfold pers; infer_instance

/-- The state of a loop before peer `i`: owing `O i`, holding `Φ d` for the peers from `i` up, `Ψ d` for those below. -/
def phase (O : ℕ → CellTallies nD τ sig Unit) (Φ Ψ : Dev nD → sProp 𝕄) (c : Dev nD) (i : ℕ) : sProp 𝕄 :=
  iprop((∃ W, owes (c : Thread nD τ) (O i) W) ∗ bigSep (todo c i) Φ ∗ bigSep (did c i) Ψ)

/-- One iteration from its effect's rule. -/
theorem iteration {O : ℕ → CellTallies nD τ sig Unit} {Φ Ψ : Dev nD → sProp 𝕄} {c : Dev nD} {i : ℕ} (hi : i < 16)
    {P : Prop} [Decidable P] (hP : P ↔ (⟨i, hi⟩ : Dev nD) ≠ c) (hO : O (c.val + 1) = O c.val)
    {α : Type} {Q : α → sProp 𝕄} {A : P → KProg F α} {k : KProg F α} {R : sProp 𝕄}
    (hop : ∀ h : P, iprop(pers PA K ∗ (∃ W, owes (c : Thread nD τ) (O i) W) ∗ Φ ⟨i, hi⟩)
        ⊢ iprop((((∃ W, owes (c : Thread nD τ) (O (i + 1)) W) ∗ Ψ ⟨i, hi⟩) -∗ kwp c k Q) -∗ kwp c (A h) Q))
    (hk : iprop(pers PA K ∗ phase O Φ Ψ c (i + 1) ∗ R) ⊢ kwp c k Q) :
    iprop(pers PA K ∗ phase O Φ Ψ c i ∗ R) ⊢ kwp c (if h : P then A h else k) Q := by
  by_cases h : P
  · have hd := hP.mp h
    have h1 : todo c i = insert (⟨i, hi⟩ : Dev nD) (todo c (i + 1)) := todo_step hd
    have h2 : did c (i + 1) = insert (⟨i, hi⟩ : Dev nD) (did c i) := did_step hd
    rw [dif_pos h]
    unfold phase at hk ⊢
    rw [h1, bigSep_insert (todo_not_mem c ⟨i, hi⟩)]
    rw [h2, bigSep_insert (did_not_mem c ⟨i, hi⟩)] at hk
    replace hk : iprop(pers PA K ∗ ((∃ W, owes (c : Thread nD τ) (O (i + 1)) W) ∗ bigSep (todo c (i + 1)) Φ ∗ (Ψ ⟨i, hi⟩ ∗ bigSep (did c i) Ψ)) ∗ R) ⊢ _ := hk
    show iprop(pers PA K ∗ ((∃ W, owes (c : Thread nD τ) (O i) W) ∗ (Φ ⟨i, hi⟩ ∗ bigSep (todo c (i + 1)) Φ) ∗ bigSep (did c i) Ψ) ∗ R) ⊢ _
    iintro ⟨#Hp, ⟨Ho, ⟨HΦ, Ht⟩, Hd⟩, HR⟩
    iapply (hop h) $$ [Ho HΦ]
    · isplitr; · iexact Hp
      isplitl [Ho] <;> iassumption
    iintro ⟨Ho, HΨ⟩
    iapply hk
    isplitr; · iexact Hp
    isplitr [HR]
    · isplitl [Ho]; · iexact Ho
      isplitl [Ht]; · iexact Ht
      isplitl [HΨ] <;> iassumption
    · iexact HR
  · have hd : (⟨i, hi⟩ : Dev nD) = c := not_not.mp fun hne => h (hP.mpr hne)
    rw [dif_neg h]
    have e1 : O (i + 1) = O i := by rw [← hd] at hO; exact hO
    have e2 : todo c (i + 1) = todo c i := by have := todo_skip c; rw [← hd] at this ⊢; exact this
    have e3 : did c (i + 1) = did c i := by have := did_skip c; rw [← hd] at this ⊢; exact this
    unfold phase at hk ⊢
    rw [e1, e2, e3] at hk
    exact hk

/-! ## The barrier's signals -/

/-- For each peer: the token of its barrier cell's duty, and the chunks `d` of the own landing buffer and result. -/
def sigΦ (c d : Dev nD) : sProp 𝕄 :=
  iprop(dutyTok ER (barCell d) 0 c ∗ (∃ f, held commM c d fullShare f) ∗ ∃ f, held outM c d fullShare f)

theorem step_signal {c : Dev nD} {i : ℕ} (hi : i < 16) {P : Prop} [Decidable P] (hP : P ↔ (⟨i, hi⟩ : Dev nD) ≠ c)
    {α : Type} {Q : α → sProp 𝕄} {dv : P → Dev nD} (hdv : ∀ h, dv h = ⟨i, hi⟩) {k : KProg F α} {R : sProp 𝕄}
    (hk : iprop(pers PA K ∗ phase (fun i => oweT 2 c 0 + oweT 0 c 0 + oweB c i) (sigΦ c) (fun _ => iprop(emp)) c (i + 1) ∗ R) ⊢ kwp c k Q) :
    iprop(pers PA K ∗ phase (fun i => oweT 2 c 0 + oweT 0 c 0 + oweB c i) (sigΦ c) (fun _ => iprop(emp)) c i ∗ R)
      ⊢ kwp c (if h : P then (semSignalWord (dv h) barS 1#32 : Prog (TpuEff nD τ sig (Elt F) Λ₀ .tc) PUnit) >>= fun _ => k else k) Q := by
  refine iteration PA K hi hP (by show _ + _ = _ + _; rw [oweB_skip]) (fun h => ?_) hk
  have hd := hP.mp h
  have hO : oweB c i = oweB c (i + 1) + tallyAt (barCell ⟨i, hi⟩) () 1 := oweB_step hd
  rw [hdv h]
  simp only [semSignalWord, Prog.lift, Prog.bind_op, Prog.bind_ret]
  unfold pers sigΦ
  iintro ⟨⟨#Hrec, #Hlev⟩, ⟨%W, Ho⟩, Htok, Hcomm, Hout⟩ Hk
  ihave Hi := (records_at PA K ((⟨i, hi⟩ : Dev nD), none)) $$ Hrec
  icases Hi with ⟨#Hinv, #Hr⟩
  iapply (Rounds.wp_signal 𝒱₀ ER (sched PA) (c : Thread nD τ) none (dst := ((⟨i, hi⟩ : Dev nD) : Thread nD τ)) (κ := K ((⟨i, hi⟩ : Dev nD), none))
      (d := c) (by rw [duties_bar]; exact Finset.mem_erase.mpr ⟨Ne.symm hd, Finset.mem_univ _⟩) (show (1 : ℕ) = _ by rfl) ()
      (O₀ := oweT 2 c 0 + oweT 0 c 0 + oweB c i) (oweT 2 c 0 + oweT 0 c 0 + oweB c (i + 1)) (by rw [hO]; exact (add_assoc _ _ _).symm))
    $$ [Ho Htok Hcomm Hout]
  · isplitr; · iexact Hinv
    isplitl [Ho]; · iexact Ho
    isplitl [Htok]; · iexact Htok
    isplitl [Hcomm Hout]
    · rw [payload_bar]; unfold barPay
      isplitl [Hcomm] <;> iassumption
    iexact Hr
  iintro Ho
  iapply Hk
  isplitl [Ho]; · iexists W; iexact Ho
  iempintro

/-! ## The transfers of the partial products -/

theorem mem_duties {c d : Dev nD} (k : Fin 4) (h : d ≠ c) : d ∈ (sched PA).duties (dcell c k d) 0 := by
  rw [duties_dma PA c h]; exact Finset.mem_singleton_self _

/-- For each peer: the own chunk for it, its landing chunk, and the tokens of the two duties a transfer pays. -/
def sendΦ (c d : Dev nD) : sProp 𝕄 :=
  iprop(held stageM c d fullShare (PA c) ∗ (∃ f, held commM d c fullShare f)
    ∗ dutyTok ER (dcell c 1 d) 0 d ∗ dutyTok ER (dcell d 0 c) 0 c)

/-- What a device keeps of a transfer of bank `k`'s: the credit to wait with. -/
def credΨ (k : Fin 4) (c d : Dev nD) : sProp 𝕄 := cred (tallyAt (dcell c k d) () N)

/-- The transfer of one partial-product chunk, at the chunks and semaphores named outright. -/
theorem send_product {c d : Dev nD} (h : d ≠ c) {n : Dev nD} (hn : n = d) {sS sR : DmaSem sig} (hS : sS = dsem 1 d) (hR : sR = dsem 0 c)
    {src dst : Fin 2 → ℕ} (hsrc : src = ![32 * d.val, 0]) (hdst : dst = ![32 * c.val, 0]) {i1 i2}
    {w1 : (stageM.slice (Rect.unit (s := S512x768) src S32x768.size i1) (fun _ => rfl)).view.WordExact}
    {w2 : (commM.slice (Rect.unit (s := S512x768) dst S32x768.size i2) (fun _ => rfl)).view.WordExact} {hsc} {hsem}
    {O' O₁ : CellTallies nD τ sig Unit} (hO : O' = O₁ + tallyAt (dcell d 0 c) () N)
    {α : Type} {Q : α → sProp 𝕄} {k : KProg F α} :
    iprop(pers PA K ∗ (∃ W, owes (c : Thread nD τ) O' W) ∗ sendΦ PA c d)
      ⊢ iprop((((∃ W, owes (c : Thread nD τ) O₁ W) ∗ credΨ 1 c d) -∗ kwp c k Q)
          -∗ kwp c (Prog.op (.enqueueDma (stageM.slice (Rect.unit (s := S512x768) src S32x768.size i1) (fun _ => rfl))
              (.remote (Dev.tc n : Thread nD τ) (commM.slice (Rect.unit (s := S512x768) dst S32x768.size i2) (fun _ => rfl)) (.dma sS) hsc) (.dma sR) w1 w2 hsem)
              fun _ => k) Q) := by
  subst hn hS hR hsrc hdst
  unfold pers sendΦ credΨ held
  iintro ⟨⟨#Hrec, #Hlev⟩, ⟨%W, Ho⟩, Hst, ⟨%f, Hcm⟩, Ht1, Ht0⟩ Hk
  ihave Hi := (records_at PA K (c, some (1, n))) $$ Hrec
  icases Hi with ⟨#Hinv1, #Hr1⟩
  ihave Hi := (records_at PA K (n, some (0, c))) $$ Hrec
  icases Hi with ⟨#Hinv0, #Hr0⟩
  iapply (Rounds.wp_send_pointsTo 𝒱₀ ER (sched PA) (c : Thread nD τ) none (c' := (n : Thread nD τ)) (src := chk stageM n) (dst := chk commM c)
      (κ₁ := K (c, some (1, n))) (κ₂ := K (n, some (0, c)))
      (r₁ := 0) (r₂ := 0) (d₁ := n) (d₂ := c) (fs := PA c) (fd := f) (q := fullShare)
      (mem_duties PA 1 h) (mem_duties PA 0 (Ne.symm h)) () () N rfl rfl rfl O₁ hO (W := W)
      (by rw [payload_dma]; exact BI.Entails.refl _)
      (by
        rw [payload_dma]
        refine Entails.of_eq (held_congr (F := F) commM n c fullShare _ _ ?_)
        exact (read_write commM c f _).trans (read_gathered PA n c).symm)) $$ [Hst Hcm Ho Ht1 Ht0]
  · isplitr; · iexact Hinv1
    isplitr; · iexact Hinv0
    isplitl [Hst]; · iexact Hst
    isplitl [Hcm]; · iexact Hcm
    isplitl [Ho]; · iexact Ho
    isplitl [Ht1]; · iexact Ht1
    isplitr; · iexact Hr1
    isplitl [Ht0]; · iexact Ht0
    iexact Hr0
  iintro ⟨Hc, Ho⟩
  iapply Hk
  isplitl [Ho]; · iexists W; iexact Ho
  iexact Hc

theorem step_product {c : Dev nD} {i : ℕ} (hi : i < 16) {P : Prop} [Decidable P] (hP : P ↔ (⟨i, hi⟩ : Dev nD) ≠ c)
    {dv : P → Dev nD} (hdv : ∀ h, dv h = ⟨i, hi⟩)
    {src : Fin 2 → ℕ} {dst : Dev nD → Fin 2 → ℕ} {oS : Fin 1 → ℕ} {oR : Dev nD → Fin 1 → ℕ} (hsrc : src = ![32 * i, 0]) (hdst : ∀ c, dst c = ![32 * c.val, 0])
    (hS : oS = ![i]) (hR : ∀ c, oR c = ![c.val])
    {j1 : _} {j2 : P → _} {i1 : _} {i2 : P → _}
    {w1 : P → (stageM.slice (Rect.unit (s := S512x768) src S32x768.size i1) (fun _ => rfl)).view.WordExact}
    {w2 : ∀ h : P, (commM.slice (Rect.unit (s := S512x768) (dst c) S32x768.size (i2 h)) (fun _ => rfl)).view.WordExact}
    {α : Type} {Q : α → sProp 𝕄} {k : KProg F α} {R : sProp 𝕄}
    (hk : iprop(pers PA K ∗ phase (fun i => oweT 2 c 0 + oweT 0 c i) (sendΦ PA c) (credΨ 1 c) c (i + 1) ∗ R) ⊢ kwp c k Q) :
    iprop(pers PA K ∗ phase (fun i => oweT 2 c 0 + oweT 0 c i) (sendΦ PA c) (credΨ 1 c) c i ∗ R)
      ⊢ kwp c (if h : P then (Prog.lift (.enqueueDma (stageM.slice (Rect.unit (s := S512x768) src S32x768.size i1) (fun _ => rfl))
              (.remote (Dev.tc (dv h) : Thread nD τ) (commM.slice (Rect.unit (s := S512x768) (dst c) S32x768.size (i2 h)) (fun _ => rfl))
                (.dma ((cc0_scratch3.slice (Rect.unit (s := S16) oS S1.size j1)).squeeze S_ squeezes_S1_S_).sem))
              (.dma ((cc0_scratch2.slice (Rect.unit (s := S16) (oR c) S1.size (j2 h))).squeeze S_ squeezes_S1_S_).sem) (w1 h) (w2 h) ⟨⟨rfl, Or.inl rfl⟩, trivial⟩)
              : Prog (TpuEff nD τ sig (Elt F) Λ₀ .tc) PUnit) >>= fun _ => k else k) Q := by
  refine iteration PA K hi hP (by show _ + _ = _ + _; rw [oweT_skip]) (fun h => ?_) hk
  exact send_product PA K (hP.mp h) (hdv h) (sem_at 1 ⟨i, hi⟩ hS _ rfl _ _) (sem_at 0 c (hR c) _ rfl _ _) hsrc (hdst c)
    (by show _ + _ = _ + _ + _; rw [add_assoc, ← oweT_step 0 (hP.mp h)])

/-! ## The transfers of the summed chunks -/

/-- For each peer: the peer's share of the own chunk of the result, the chunk's landing place, and the two duty tokens. -/
def shareΦ (c d : Dev nD) : sProp 𝕄 :=
  iprop(held outM c c (ShareLeaves.leaf 4 fullShare (d : Fin 16)) (result PA) ∗ (∃ f, held outM d c fullShare f)
    ∗ dutyTok ER (dcell c 3 d) 0 d ∗ dutyTok ER (dcell d 2 c) 0 c)

/-- The transfer of the summed chunk to one peer, at the chunks and semaphores named outright. -/
theorem send_result {c d : Dev nD} (h : d ≠ c) {n : Dev nD} (hn : n = d) {sS sR : DmaSem sig} (hS : sS = dsem 3 d) (hR : sR = dsem 2 c)
    {src : Fin 2 → ℕ} (hsrc : src = ![32 * c.val, 0]) {i1 i2}
    {w1 : (outM.slice (Rect.unit (s := S512x768) src S32x768.size i1) (fun _ => rfl)).view.WordExact}
    {w2 : (outM.slice (Rect.unit (s := S512x768) src S32x768.size i2) (fun _ => rfl)).view.WordExact} {hsc} {hsem}
    {O' O₁ : CellTallies nD τ sig Unit} (hO : O' = O₁ + tallyAt (dcell d 2 c) () N)
    {α : Type} {Q : α → sProp 𝕄} {k : KProg F α} :
    iprop(pers PA K ∗ (∃ W, owes (c : Thread nD τ) O' W) ∗ shareΦ PA c d)
      ⊢ iprop((((∃ W, owes (c : Thread nD τ) O₁ W) ∗ credΨ 3 c d) -∗ kwp c k Q)
          -∗ kwp c (Prog.op (.enqueueDma (outM.slice (Rect.unit (s := S512x768) src S32x768.size i1) (fun _ => rfl))
              (.remote (Dev.tc n : Thread nD τ) (outM.slice (Rect.unit (s := S512x768) src S32x768.size i2) (fun _ => rfl)) (.dma sS) hsc) (.dma sR) w1 w2 hsem)
              fun _ => k) Q) := by
  subst hn hS hR hsrc
  unfold pers shareΦ credΨ held
  iintro ⟨⟨#Hrec, #Hlev⟩, ⟨%W, Ho⟩, Hst, ⟨%f, Hcm⟩, Ht1, Ht0⟩ Hk
  ihave Hi := (records_at PA K (c, some (3, n))) $$ Hrec
  icases Hi with ⟨#Hinv1, #Hr1⟩
  ihave Hi := (records_at PA K (n, some (2, c))) $$ Hrec
  icases Hi with ⟨#Hinv0, #Hr0⟩
  iapply (Rounds.wp_send_pointsTo 𝒱₀ ER (sched PA) (c : Thread nD τ) none (c' := (n : Thread nD τ)) (src := chk outM c) (dst := chk outM c)
      (κ₁ := K (c, some (3, n))) (κ₂ := K (n, some (2, c)))
      (r₁ := 0) (r₂ := 0) (d₁ := n) (d₂ := c) (fs := result PA) (fd := f) (q := ShareLeaves.leaf 4 fullShare (n : Fin 16))
      (mem_duties PA 3 h) (mem_duties PA 2 (Ne.symm h)) () () N rfl rfl rfl O₁ hO (W := W)
      (by rw [payload_dma]; exact BI.Entails.refl _)
      (by
        rw [payload_dma]
        refine Entails.of_eq (held_congr (F := F) outM n c fullShare _ _ ?_)
        exact read_write outM c f _)) $$ [Hst Hcm Ho Ht1 Ht0]
  · isplitr; · iexact Hinv1
    isplitr; · iexact Hinv0
    isplitl [Hst]; · iexact Hst
    isplitl [Hcm]; · iexact Hcm
    isplitl [Ho]; · iexact Ho
    isplitl [Ht1]; · iexact Ht1
    isplitr; · iexact Hr1
    isplitl [Ht0]; · iexact Ht0
    iexact Hr0
  iintro ⟨Hc, Ho⟩
  iapply Hk
  isplitl [Ho]; · iexists W; iexact Ho
  iexact Hc

theorem step_result {c : Dev nD} {i : ℕ} (hi : i < 16) {P : Prop} [Decidable P] (hP : P ↔ (⟨i, hi⟩ : Dev nD) ≠ c)
    {dv : P → Dev nD} (hdv : ∀ h, dv h = ⟨i, hi⟩)
    {src : Dev nD → Fin 2 → ℕ} {oS : Fin 1 → ℕ} {oR : Dev nD → Fin 1 → ℕ} (hsrc : ∀ c, src c = ![32 * c.val, 0]) (hS : oS = ![i]) (hR : ∀ c, oR c = ![c.val])
    {j1 : _} {j2 i1 i2 : P → _}
    {w1 : ∀ h : P, (outM.slice (Rect.unit (s := S512x768) (src c) S32x768.size (i1 h)) (fun _ => rfl)).view.WordExact}
    {w2 : ∀ h : P, (outM.slice (Rect.unit (s := S512x768) (src c) S32x768.size (i2 h)) (fun _ => rfl)).view.WordExact}
    {α : Type} {Q : α → sProp 𝕄} {k : KProg F α} {R : sProp 𝕄}
    (hk : iprop(pers PA K ∗ phase (fun i => oweT 2 c i) (shareΦ PA c) (credΨ 3 c) c (i + 1) ∗ R) ⊢ kwp c k Q) :
    iprop(pers PA K ∗ phase (fun i => oweT 2 c i) (shareΦ PA c) (credΨ 3 c) c i ∗ R)
      ⊢ kwp c (if h : P then (Prog.lift (.enqueueDma (outM.slice (Rect.unit (s := S512x768) (src c) S32x768.size (i1 h)) (fun _ => rfl))
              (.remote (Dev.tc (dv h) : Thread nD τ) (outM.slice (Rect.unit (s := S512x768) (src c) S32x768.size (i2 h)) (fun _ => rfl))
                (.dma ((cc0_scratch5.slice (Rect.unit (s := S16) oS S1.size j1)).squeeze S_ squeezes_S1_S_).sem))
              (.dma ((cc0_scratch4.slice (Rect.unit (s := S16) (oR c) S1.size (j2 h))).squeeze S_ squeezes_S1_S_).sem) (w1 h) (w2 h) ⟨⟨rfl, Or.inl rfl⟩, trivial⟩)
              : Prog (TpuEff nD τ sig (Elt F) Λ₀ .tc) PUnit) >>= fun _ => k else k) Q := by
  refine iteration PA K hi hP (oweT_skip 2 c) (fun h => ?_) hk
  exact send_result PA K (hP.mp h) (hdv h) (sem_at 3 ⟨i, hi⟩ hS _ rfl _ _) (sem_at 2 c (hR c) _ rfl _ _) (hsrc c) (oweT_step 2 (hP.mp h))

/-! ## The waits on the transfer cells -/

/-- For each peer: the credit of bank `k`'s cell for it and the position there; -/
def waitΦ (k : Fin 4) (c d : Dev nD) : sProp 𝕄 := iprop(cred (tallyAt (dcell c k d) () N) ∗ atPos ER (dcell c k d) 0 ∅ 0)
/-- after the wait the position past the round, and what the transfer handed over. -/
def waitΨ (k : Fin 4) (c d : Dev nD) : sProp 𝕄 := iprop(atPos ER (dcell c k d) 1 ∅ 0 ∗ bankPay PA c (k.val + 1) d)

theorem step_wait (b : Fin 4) {c : Dev nD} (O : CellTallies nD τ sig Unit)
    (hmw : ∀ d, (levAts L lv : sProp 𝕄) ⊢ MayWait (c : Thread nD τ) (.dma (dsem b d)) () O)
    {i : ℕ} (hi : i < 16) {P : Prop} [Decidable P] (hP : P ↔ (⟨i, hi⟩ : Dev nD) ≠ c)
    {oS : Fin 1 → ℕ} (hS : oS = ![i]) {A : DmaSems sig S16} (hA : A = SemArray.consecutive (6 + 16 * b.val) S16 (bank_fits b)) {j1 : _}
    {src dst : P → Memref sig .tc .vmem S32x768 .bf16} (hN : ∀ h, (dst h).view.dmaCredit = N)
    {w1 : ∀ h : P, (src h).view.WordExact} {w2 : ∀ h : P, (dst h).view.WordExact}
    {α : Type} {Q : α → sProp 𝕄} {k : KProg F α} {R : sProp 𝕄}
    (hk : iprop(pers PA K ∗ phase (fun _ => O) (waitΦ b c) (waitΨ PA b c) c (i + 1) ∗ R) ⊢ kwp c k Q) :
    iprop(pers PA K ∗ phase (fun _ => O) (waitΦ b c) (waitΨ PA b c) c i ∗ R)
      ⊢ kwp c (if h : P then (Prog.lift (.waitDma2 ((A.slice (Rect.unit (s := S16) oS S1.size j1)).squeeze S_ squeezes_S1_S_).sem (src h) (dst h) (w1 h) (w2 h))
          : Prog (TpuEff nD τ sig (Elt F) Λ₀ .tc) PUnit) >>= fun _ => k else k) Q := by
  refine iteration PA K hi hP rfl (fun h => ?_) hk
  have hd := hP.mp h
  rw [sem_at b ⟨i, hi⟩ hS A hA]
  simp only [Prog.lift, Prog.bind_op, Prog.bind_ret]
  unfold pers waitΦ waitΨ
  iintro ⟨⟨#Hrec, #Hlev⟩, ⟨%W, Ho⟩, Hc, Hat⟩ Hk
  ihave Hi := (records_at PA K (c, some (b, ⟨i, hi⟩))) $$ Hrec
  icases Hi with ⟨#Hinv, #Hr⟩
  iapply (Rounds.wp_wait_rest_token 𝒱₀ ER (sched PA) (c : Thread nD τ) none (κ := K (c, some (b, ⟨i, hi⟩)))
      (wpE_waitDma2_eq 𝒱₀ (c : Thread nD τ) none Set.univ) (Set.mem_univ _) () (O := O) (W := W) (R := 0) (m := 0) (T := ∅)
      (by rw [Nat.zero_add, hN h]; exact (expect_dma PA c hd).symm)) $$ [Hc Ho Hat]
  · isplitr; · iexact Hinv
    rw [hN h]
    isplitl [Hc]; · iexact Hc
    isplitl [Ho]; · iexact Ho
    isplitr; · iapply (hmw ⟨i, hi⟩); iexact Hlev
    iexact Hat
  iintro ⟨Ho, Hat, -, Hpay⟩
  ihave Hp := (Entails.of_eq (rest_dma PA c hd)) $$ Hpay
  iapply Hk
  isplitl [Ho]; · iexists _; iexact Ho
  isplitl [Hat] <;> iassumption

end Cert.Fused
-- ==== Proof.Loops.lean ====
/-
The parts of the kernel's body that talk: each carries its loops from the peer the part begins with to the peer it ends with.
-/
module

public import proofs.«01_k».proof.Proof.Steps

@[expose] public section

set_option maxRecDepth 65536
set_option maxHeartbeats 4000000

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PA : Dev nD → Arr F) (K : Dev nD × CI → ℕ) (c : Dev nD)

abbrev xM : Memref sig .tc .vmem S2x256x768 .bf16 := Memref.whole cc0_stg0_0
abbrev wqM : Memref sig .tc .vmem S768x512 .bf16 := Memref.whole cc0_stg1_0
abbrev woM : Memref sig .tc .vmem S512x768 .bf16 := Memref.whole cc0_stg2_0
abbrev kM : Memref sig .tc .vmem S2x512x2x64 .bf16 := Memref.whole cc0_stg3_0
abbrev vM : Memref sig .tc .vmem S2x512x2x64 .bf16 := Memref.whole cc0_stg4_0

/-! ## Between two loops -/

/-- A loop over: what it got stays, and the next loop starts from what was kept for it, owing the same. -/
theorem turn {O O' : ℕ → CellTallies nD τ sig Unit} {Φ Ψ Φ' Ψ' : Dev nD → sProp 𝕄} (hO : O 16 = O' 0) {R E : sProp 𝕄}
    (hk : iprop(pers PA K ∗ phase O' Φ' Ψ' c 0 ∗ (bigSep (Finset.univ.erase c) Ψ ∗ R)) ⊢ E) :
    iprop(pers PA K ∗ phase O Φ Ψ c 16 ∗ (bigSep (Finset.univ.erase c) Φ' ∗ R)) ⊢ E := by
  refine BIBase.Entails.trans ?_ hk
  unfold phase
  rw [hO, todo_zero, did_zero, todo_end, did_end, bigSep_empty, bigSep_empty]
  iintro ⟨Hp, ⟨Ho, -, Hd⟩, Ht, HR⟩
  isplitl [Hp]; · iexact Hp
  isplitl [Ho Ht]
  · isplitl [Ho]; · iexact Ho
    isplitl [Ht]; · iexact Ht
    iempintro
  isplitl [Hd] <;> iassumption

/-- A part's end. -/
theorem step_pure {α : Type} {a : α} {Q : α → sProp 𝕄} {E : sProp 𝕄} (hk : E ⊢ Q a) : E ⊢ kwp c (pure a : Prog (TpuEff nD τ sig (Elt F) Λ₀ .tc) α) Q := by
  refine hk.trans ?_
  show Q a ⊢ wp frame (wpE (defs₀ (F := F)) 𝒱₀ (c : Thread nD τ) none) Set.univ (Prog.ret a) Q
  rw [wp_ret]
  exact fupd_intro

/-- The device's own number at the head of a program. -/
theorem step_device {α : Type} {Q : α → sProp 𝕄} {E : sProp 𝕄} {k : Dev nD → Prog (TpuEff nD τ sig (Elt F) Λ₀ .tc) α} (hk : E ⊢ kwp c (k c) Q) :
    E ⊢ kwp c ((Prog.lift .deviceId : Prog (TpuEff nD τ sig (Elt F) Λ₀ .tc) (Dev nD)) >>= k) Q := by
  refine hk.trans (Entails.of_eq ?_)
  simp only [Prog.lift, Prog.bind_op, Prog.bind_ret, wp_deviceId]

/-- A part and what follows it. -/
theorem step_bind {α β : Type} {Q : β → sProp 𝕄} {E : sProp 𝕄} {p : Prog (TpuEff nD τ sig (Elt F) Λ₀ .tc) α} {k : α → Prog (TpuEff nD τ sig (Elt F) Λ₀ .tc) β}
    (hk : E ⊢ kwp c p fun a => kwp c (k a) Q) : E ⊢ kwp c (p >>= k) Q := by
  unfold kwp at hk ⊢; rw [wp_bind]; exact hk

/-! ## The banks are the scratch arrays -/

theorem laid0 : cc0_scratch2 = SemArray.consecutive (6 + 16 * (0 : Fin 4).val) S16 (bank_fits 0) := by unfold cc0_scratch2; congr 1
theorem laid1 : cc0_scratch3 = SemArray.consecutive (6 + 16 * (1 : Fin 4).val) S16 (bank_fits 1) := by unfold cc0_scratch3; congr 1
theorem laid2 : cc0_scratch4 = SemArray.consecutive (6 + 16 * (2 : Fin 4).val) S16 (bank_fits 2) := by unfold cc0_scratch4; congr 1
theorem laid3 : cc0_scratch5 = SemArray.consecutive (6 + 16 * (3 : Fin 4).val) S16 (bank_fits 3) := by unfold cc0_scratch5; congr 1

/-! ## Every chunk counts the same on a semaphore -/

theorem credit_out {o : Fin 2 → ℕ} (inb) (h) : (outM.slice (Rect.unit (s := S512x768) o S32x768.size inb) h).view.dmaCredit = N :=
  View.dmaCredit_closed _ S32x768 rfl outM.view.buf rfl N (by decide +kernel)
theorem credit_stage {o : Fin 2 → ℕ} (inb) (h) : (stageM.slice (Rect.unit (s := S512x768) o S32x768.size inb) h).view.dmaCredit = N :=
  View.dmaCredit_closed _ S32x768 rfl stageM.view.buf rfl N (by decide +kernel)
theorem credit_comm {o : Fin 2 → ℕ} (inb) (h) : (commM.slice (Rect.unit (s := S512x768) o S32x768.size inb) h).view.dmaCredit = N :=
  View.dmaCredit_closed _ S32x768 rfl commM.view.buf rfl N (by decide +kernel)

/-! ## The loops' states -/

abbrev sigSt : ℕ → sProp 𝕄 := phase (fun i => oweT 2 c 0 + oweT 0 c 0 + oweB c i) (sigΦ c) (fun _ => iprop(emp)) c
abbrev sendSt : ℕ → sProp 𝕄 := phase (fun i => oweT 2 c 0 + oweT 0 c i) (sendΦ PA c) (credΨ 1 c) c
abbrev landSt : ℕ → sProp 𝕄 := phase (fun _ => oweT 2 c 0) (waitΦ 0 c) (waitΨ PA 0 c) c
abbrev shareSt : ℕ → sProp 𝕄 := phase (fun i => oweT 2 c i) (shareΦ PA c) (credΨ 3 c) c
abbrev lateSt (b : Fin 4) : ℕ → sProp 𝕄 := phase (fun _ => 0) (waitΦ b c) (waitΨ PA b c) c

/-- The guard at a number the previous part computed. -/
abbrev ne32 (n : BitVec 32) : BitVec 32 := Scalar.extui (Scalar.cmpi .ne (v2of c) n)

theorem mayWait_nothing (d : Thread nD τ) (sm : SemLoc sig) : (levAts L lv : sProp 𝕄) ⊢ MayWait d sm () 0 := by
  rw [MayWait_zero]; iintro -; iempintro

/-! ## The parts -/

theorem part1 {Q : ((_ : Dev nD) ×' (_ : BitVec 32) ×' Sems sig S_) → sProp 𝕄} {R : sProp 𝕄}
    (hk : iprop(pers PA K ∗ sigSt c 8 ∗ R) ⊢ Q ⟨c, v2of c, SemArray.scalar (sig.barrier 0 rfl)⟩) :
    iprop(pers PA K ∗ sigSt c 0 ∗ R)
      ⊢ kwp c (k0_part1 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5) Q := by
  rw [k0_part1_eq_skeleton]; unfold k0_part1_skel
  refine step_device c ?_
  iterate 8 refine step_signal PA K (by decide) (guard _ _) (fun _ => rfl) ?_
  exact step_pure c hk

theorem part12 {Q : PUnit → sProp 𝕄} {R : sProp 𝕄}
    (hk : iprop(pers PA K ∗ sendSt PA c 11 ∗ R) ⊢ Q ⟨⟩) :
    iprop(pers PA K ∗ sendSt PA c 1 ∗ R)
      ⊢ kwp c (k0_part12 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 c (v2of c)) Q := by
  rw [k0_part12_eq_skeleton]; unfold k0_part12_skel
  iterate 10 refine step_product PA K (by decide) (guard _ _) (fun _ => rfl) rfl (by decide) rfl (by decide) ?_
  exact step_pure c hk

theorem part13 {Q : BitVec 1 → sProp 𝕄} {R : sProp 𝕄}
    (hk : iprop(pers PA K ∗ landSt PA c 5 ∗ (bigSep (Finset.univ.erase c) (credΨ 1 c) ∗ R)) ⊢ Q (Scalar.cmpi .ne (ne32 c 5#32) 0#32)) :
    iprop(pers PA K ∗ sendSt PA c 11 ∗ (bigSep (Finset.univ.erase c) (waitΦ 0 c) ∗ R))
      ⊢ kwp c (k0_part13 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 c (v2of c)) Q := by
  rw [k0_part13_eq_skeleton]; unfold k0_part13_skel
  iterate 5 refine step_product PA K (by decide) (guard _ _) (fun _ => rfl) rfl (by decide) rfl (by decide) ?_
  refine turn PA K c (O' := fun _ => oweT 2 c 0) (Ψ' := waitΨ PA 0 c) (by rw [oweT_end, add_zero]) ?_
  iterate 5 refine step_wait PA K 0 (oweT 2 c 0) (mayWait_land c) (by decide) (guard _ _) rfl laid0 (fun _ => credit_comm _ _) ?_
  exact step_pure c hk

theorem part14 {Q : BitVec 1 → sProp 𝕄} {R : sProp 𝕄}
    (hk : iprop(pers PA K ∗ landSt PA c 15 ∗ R) ⊢ Q (Scalar.cmpi .ne (ne32 c 15#32) 0#32)) :
    iprop(pers PA K ∗ landSt PA c 5 ∗ R)
      ⊢ kwp c (k0_part14 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (v2of c) (Scalar.cmpi .ne (ne32 c 5#32) 0#32)) Q := by
  rw [k0_part14_eq_skeleton]; unfold k0_part14_skel
  iterate 10 refine step_wait PA K 0 (oweT 2 c 0) (mayWait_land c) (by decide) (guard _ _) rfl laid0 (fun _ => credit_comm _ _) ?_
  exact step_pure c hk

theorem part16 {Q : BitVec 32 → sProp 𝕄} {R : sProp 𝕄} (v : BitVec 32)
    (hk : iprop(pers PA K ∗ lateSt PA c 1 1 ∗ (bigSep (Finset.univ.erase c) (credΨ 3 c) ∗ R)) ⊢ Q (ne32 c 1#32)) :
    iprop(pers PA K ∗ shareSt PA c 7 ∗ (bigSep (Finset.univ.erase c) (waitΦ 1 c) ∗ R))
      ⊢ kwp c (k0_part16 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 c (v2of c) v) Q := by
  rw [k0_part16_eq_skeleton]; unfold k0_part16_skel
  iterate 9 refine step_result PA K (by decide) (guard _ _) (fun _ => rfl) (by decide) rfl (by decide) ?_
  refine turn PA K c (O' := fun _ => 0) (Ψ' := waitΨ PA 1 c) (oweT_end 2 c) ?_
  refine step_wait PA K 1 0 (fun _ => mayWait_nothing _ _) (by decide) (guard _ _) rfl laid1 (fun _ => credit_stage _ _) ?_
  exact step_pure c hk

theorem part17 {Q : BitVec 32 → sProp 𝕄} {R : sProp 𝕄}
    (hk : iprop(pers PA K ∗ lateSt PA c 1 11 ∗ R) ⊢ Q (ne32 c 11#32)) :
    iprop(pers PA K ∗ lateSt PA c 1 1 ∗ R)
      ⊢ kwp c (k0_part17 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (v2of c) (ne32 c 1#32)) Q := by
  rw [k0_part17_eq_skeleton]; unfold k0_part17_skel
  iterate 10 refine step_wait PA K 1 0 (fun _ => mayWait_nothing _ _) (by decide) (guard _ _) rfl laid1 (fun _ => credit_stage _ _) ?_
  exact step_pure c hk

theorem part18 {Q : BitVec 32 → sProp 𝕄} {R : sProp 𝕄}
    (hk : iprop(pers PA K ∗ lateSt PA c 2 5 ∗ (bigSep (Finset.univ.erase c) (waitΨ PA 1 c) ∗ R)) ⊢ Q (ne32 c 5#32)) :
    iprop(pers PA K ∗ lateSt PA c 1 11 ∗ (bigSep (Finset.univ.erase c) (waitΦ 2 c) ∗ R))
      ⊢ kwp c (k0_part18 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (v2of c) (ne32 c 11#32)) Q := by
  rw [k0_part18_eq_skeleton]; unfold k0_part18_skel
  iterate 5 refine step_wait PA K 1 0 (fun _ => mayWait_nothing _ _) (by decide) (guard _ _) rfl laid1 (fun _ => credit_stage _ _) ?_
  refine turn PA K c (O := fun _ => 0) (O' := fun _ => 0) (Ψ' := waitΨ PA 2 c) rfl ?_
  iterate 5 refine step_wait PA K 2 0 (fun _ => mayWait_nothing _ _) (by decide) (guard _ _) rfl laid2 (fun _ => credit_out _ _) ?_
  exact step_pure c hk

theorem part19 {Q : BitVec 32 → sProp 𝕄} {R : sProp 𝕄}
    (hk : iprop(pers PA K ∗ lateSt PA c 2 15 ∗ R) ⊢ Q (ne32 c 15#32)) :
    iprop(pers PA K ∗ lateSt PA c 2 5 ∗ R)
      ⊢ kwp c (k0_part19 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (v2of c) (ne32 c 5#32)) Q := by
  rw [k0_part19_eq_skeleton]; unfold k0_part19_skel
  iterate 10 refine step_wait PA K 2 0 (fun _ => mayWait_nothing _ _) (by decide) (guard _ _) rfl laid2 (fun _ => credit_out _ _) ?_
  exact step_pure c hk

theorem part20 {Q : BitVec 32 → sProp 𝕄} {R : sProp 𝕄}
    (hk : iprop(pers PA K ∗ lateSt PA c 3 9 ∗ (bigSep (Finset.univ.erase c) (waitΨ PA 2 c) ∗ R)) ⊢ Q (ne32 c 9#32)) :
    iprop(pers PA K ∗ lateSt PA c 2 15 ∗ (bigSep (Finset.univ.erase c) (waitΦ 3 c) ∗ R))
      ⊢ kwp c (k0_part20 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 c (v2of c) (ne32 c 15#32)) Q := by
  rw [k0_part20_eq_skeleton]; unfold k0_part20_skel
  refine step_wait PA K 2 0 (fun _ => mayWait_nothing _ _) (by decide) (guard _ _) rfl laid2 (fun _ => credit_out _ _) ?_
  refine turn PA K c (O := fun _ => 0) (O' := fun _ => 0) (Ψ' := waitΨ PA 3 c) rfl ?_
  iterate 9 refine step_wait PA K 3 0 (fun _ => mayWait_nothing _ _) (by decide) (guard _ _) rfl laid3 (fun _ => credit_out _ _) ?_
  exact step_pure c hk

end Cert.Fused
-- ==== Proof.Local.lean ====
/-
The parts of the kernel that compute: the loads of the windows, the eight heads of each batch, and the stores of the partial
product and of the summed chunk.
-/
module

public import proofs.«01_k».proof.Proof.Attn
public import proofs.«01_k».proof.Proof.Loops

@[expose] public section

set_option maxRecDepth 65536
set_option maxHeartbeats 400000

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × CI → ℕ) (I : Dev nD → Ins F) (c : Dev nD)

/-! ## One load, one store, one wait at the head of a program -/

theorem step_load {s : Shape} {e : EltTy} {M : Memref sig .tc .vmem s e} {r : LoadRect s} {hl : M.view.LoadsAt r} {α : Type} {Q : α → sProp 𝕄}
    {k : (r.shape.Idx → Elt F e) → Prog (TpuEff nD τ sig (Elt F) Λ₀ .tc) α} {q : PosShare TreeShare} {S : Finset (Idx (M.view.loc (c : Thread nD τ)))}
    (f : Buf (Elt F) (M.view.loc (c : Thread nD τ))) (hS : M.view.setOn r.set ⊆ S) {A : sProp 𝕄}
    (hA : A ⊢ iprop((M.view.loc (c : Thread nD τ) ↦[S]{q} f) ∗ ((M.view.loc (c : Thread nD τ) ↦[S]{q} f) -∗ A)))
    (hk : A ⊢ kwp c (k (M.view.readAt (Elt F) r f)) Q) :
    A ⊢ kwp c ((Prog.lift (.load M r hl) : Prog (TpuEff nD τ sig (Elt F) Λ₀ .tc) _) >>= k) Q := by
  refine hA.trans ?_
  simp only [Prog.lift, Prog.bind_op, Prog.bind_ret]
  iintro ⟨Hf, Hb⟩
  iapply (wp_load 𝒱₀ (c : Thread nD τ) none Set.univ hS) $$ Hf
  iintro Hf
  iapply hk
  iapply Hb $$ Hf

theorem step_store {s : Shape} {e : EltTy} {M : Memref sig .tc .vmem s e} {r : Rect s} {w : r.shape.Idx → Elt F e} {hx : (M.access r).Stores Finset.univ} {hm}
    {α : Type} {Q : α → sProp 𝕄} {k : PUnit → Prog (TpuEff nD τ sig (Elt F) Λ₀ .tc) α} {S : Finset (Idx ((M.access r).loc (c : Thread nD τ)))}
    (f : Buf (Elt F) ((M.access r).loc (c : Thread nD τ))) (hS : (M.access r).setOn Finset.univ ⊆ S) {A A' : sProp 𝕄}
    (hA : A ⊢ iprop(((M.access r).loc (c : Thread nD τ) ↦[S]{fullShare} f)
      ∗ (((M.access r).loc (c : Thread nD τ) ↦[S]{fullShare} (M.access r).write (Elt F) f w Finset.univ) -∗ A')))
    (hk : A' ⊢ kwp c (k ⟨⟩) Q) :
    A ⊢ kwp c ((Prog.lift (.store M r w Finset.univ hx hm) : Prog (TpuEff nD τ sig (Elt F) Λ₀ .tc) PUnit) >>= k) Q := by
  refine hA.trans ?_
  simp only [Prog.lift, Prog.bind_op, Prog.bind_ret]
  iintro ⟨Hf, Hb⟩
  iapply (wp_store 𝒱₀ (c : Thread nD τ) none Set.univ hS) $$ Hf
  iintro Hf
  iapply hk
  iapply Hb $$ Hf

/-! ## The windows -/

/-- The five windows, held whole. -/
def insc (J : Ins F) : sProp 𝕄 :=
  iprop((xM.view.loc (c : Thread nD τ) ↦[Finset.univ]{fullShare} J.x) ∗ (wqM.view.loc (c : Thread nD τ) ↦[Finset.univ]{fullShare} J.wq)
    ∗ (woM.view.loc (c : Thread nD τ) ↦[Finset.univ]{fullShare} J.wo) ∗ (kM.view.loc (c : Thread nD τ) ↦[Finset.univ]{fullShare} J.k)
    ∗ (vM.view.loc (c : Thread nD τ) ↦[Finset.univ]{fullShare} J.v))

theorem hold_x {R : sProp 𝕄} (J : Ins F) : iprop(insc c J ∗ R) ⊢ iprop((xM.view.loc (c : Thread nD τ) ↦[Finset.univ]{fullShare} J.x)
    ∗ ((xM.view.loc (c : Thread nD τ) ↦[Finset.univ]{fullShare} J.x) -∗ iprop(insc c J ∗ R))) := by
  unfold insc
  iintro ⟨⟨Hx, Hwq, Hwo, Hk, Hv⟩, HR⟩
  isplitl [Hx]; · iexact Hx
  iintro Hx
  isplitr [HR]
  · isplitl [Hx]; · iexact Hx
    isplitl [Hwq]; · iexact Hwq
    isplitl [Hwo]; · iexact Hwo
    isplitl [Hk] <;> iassumption
  · iexact HR

theorem hold_wq {R : sProp 𝕄} (J : Ins F) : iprop(insc c J ∗ R) ⊢ iprop((wqM.view.loc (c : Thread nD τ) ↦[Finset.univ]{fullShare} J.wq)
    ∗ ((wqM.view.loc (c : Thread nD τ) ↦[Finset.univ]{fullShare} J.wq) -∗ iprop(insc c J ∗ R))) := by
  unfold insc
  iintro ⟨⟨Hx, Hwq, Hwo, Hk, Hv⟩, HR⟩
  isplitl [Hwq]; · iexact Hwq
  iintro Hwq
  isplitr [HR]
  · isplitl [Hx]; · iexact Hx
    isplitl [Hwq]; · iexact Hwq
    isplitl [Hwo]; · iexact Hwo
    isplitl [Hk] <;> iassumption
  · iexact HR

theorem hold_wo {R : sProp 𝕄} (J : Ins F) : iprop(insc c J ∗ R) ⊢ iprop((woM.view.loc (c : Thread nD τ) ↦[Finset.univ]{fullShare} J.wo)
    ∗ ((woM.view.loc (c : Thread nD τ) ↦[Finset.univ]{fullShare} J.wo) -∗ iprop(insc c J ∗ R))) := by
  unfold insc
  iintro ⟨⟨Hx, Hwq, Hwo, Hk, Hv⟩, HR⟩
  isplitl [Hwo]; · iexact Hwo
  iintro Hwo
  isplitr [HR]
  · isplitl [Hx]; · iexact Hx
    isplitl [Hwq]; · iexact Hwq
    isplitl [Hwo]; · iexact Hwo
    isplitl [Hk] <;> iassumption
  · iexact HR

theorem hold_k {R : sProp 𝕄} (J : Ins F) : iprop(insc c J ∗ R) ⊢ iprop((kM.view.loc (c : Thread nD τ) ↦[Finset.univ]{fullShare} J.k)
    ∗ ((kM.view.loc (c : Thread nD τ) ↦[Finset.univ]{fullShare} J.k) -∗ iprop(insc c J ∗ R))) := by
  unfold insc
  iintro ⟨⟨Hx, Hwq, Hwo, Hk, Hv⟩, HR⟩
  isplitl [Hk]; · iexact Hk
  iintro Hk
  isplitr [HR]
  · isplitl [Hx]; · iexact Hx
    isplitl [Hwq]; · iexact Hwq
    isplitl [Hwo]; · iexact Hwo
    isplitl [Hk] <;> iassumption
  · iexact HR

theorem hold_v {R : sProp 𝕄} (J : Ins F) : iprop(insc c J ∗ R) ⊢ iprop((vM.view.loc (c : Thread nD τ) ↦[Finset.univ]{fullShare} J.v)
    ∗ ((vM.view.loc (c : Thread nD τ) ↦[Finset.univ]{fullShare} J.v) -∗ iprop(insc c J ∗ R))) := by
  unfold insc
  iintro ⟨⟨Hx, Hwq, Hwo, Hk, Hv⟩, HR⟩
  isplitl [Hv]; · iexact Hv
  iintro Hv
  isplitr [HR]
  · isplitl [Hx]; · iexact Hx
    isplitl [Hwq]; · iexact Hwq
    isplitl [Hwo]; · iexact Hwo
    isplitl [Hk] <;> iassumption
  · iexact HR

theorem step_x {J : Ins F} {r : LoadRect S2x256x768} {hl : xM.view.LoadsAt r} {α : Type} {Q : α → sProp 𝕄} {R : sProp 𝕄}
    {k : (r.shape.Idx → Elt F .bf16) → Prog (TpuEff nD τ sig (Elt F) Λ₀ .tc) α}
    (hk : iprop(insc c J ∗ R) ⊢ kwp c (k (xM.view.readAt (Elt F) r J.x)) Q) :
    iprop(insc c J ∗ R) ⊢ kwp c ((Prog.lift (.load xM r hl) : Prog (TpuEff nD τ sig (Elt F) Λ₀ .tc) (r.shape.Idx → Elt F .bf16)) >>= k) Q :=
  step_load c (M := xM) J.x (Finset.subset_univ _) (hold_x c J) hk

theorem step_wq {J : Ins F} {r : LoadRect S768x512} {hl : wqM.view.LoadsAt r} {α : Type} {Q : α → sProp 𝕄} {R : sProp 𝕄}
    {k : (r.shape.Idx → Elt F .bf16) → Prog (TpuEff nD τ sig (Elt F) Λ₀ .tc) α}
    (hk : iprop(insc c J ∗ R) ⊢ kwp c (k (wqM.view.readAt (Elt F) r J.wq)) Q) :
    iprop(insc c J ∗ R) ⊢ kwp c ((Prog.lift (.load wqM r hl) : Prog (TpuEff nD τ sig (Elt F) Λ₀ .tc) (r.shape.Idx → Elt F .bf16)) >>= k) Q :=
  step_load c (M := wqM) J.wq (Finset.subset_univ _) (hold_wq c J) hk

theorem step_wo {J : Ins F} {r : LoadRect S512x768} {hl : woM.view.LoadsAt r} {α : Type} {Q : α → sProp 𝕄} {R : sProp 𝕄}
    {k : (r.shape.Idx → Elt F .bf16) → Prog (TpuEff nD τ sig (Elt F) Λ₀ .tc) α}
    (hk : iprop(insc c J ∗ R) ⊢ kwp c (k (woM.view.readAt (Elt F) r J.wo)) Q) :
    iprop(insc c J ∗ R) ⊢ kwp c ((Prog.lift (.load woM r hl) : Prog (TpuEff nD τ sig (Elt F) Λ₀ .tc) (r.shape.Idx → Elt F .bf16)) >>= k) Q :=
  step_load c (M := woM) J.wo (Finset.subset_univ _) (hold_wo c J) hk

theorem step_k {J : Ins F} {r : LoadRect S2x512x2x64} {hl : kM.view.LoadsAt r} {α : Type} {Q : α → sProp 𝕄} {R : sProp 𝕄}
    {k : (r.shape.Idx → Elt F .bf16) → Prog (TpuEff nD τ sig (Elt F) Λ₀ .tc) α}
    (hk : iprop(insc c J ∗ R) ⊢ kwp c (k (kM.view.readAt (Elt F) r J.k)) Q) :
    iprop(insc c J ∗ R) ⊢ kwp c ((Prog.lift (.load kM r hl) : Prog (TpuEff nD τ sig (Elt F) Λ₀ .tc) (r.shape.Idx → Elt F .bf16)) >>= k) Q :=
  step_load c (M := kM) J.k (Finset.subset_univ _) (hold_k c J) hk

theorem step_v {J : Ins F} {r : LoadRect S2x512x2x64} {hl : vM.view.LoadsAt r} {α : Type} {Q : α → sProp 𝕄} {R : sProp 𝕄}
    {k : (r.shape.Idx → Elt F .bf16) → Prog (TpuEff nD τ sig (Elt F) Λ₀ .tc) α}
    (hk : iprop(insc c J ∗ R) ⊢ kwp c (k (vM.view.readAt (Elt F) r J.v)) Q) :
    iprop(insc c J ∗ R) ⊢ kwp c ((Prog.lift (.load vM r hl) : Prog (TpuEff nD τ sig (Elt F) Λ₀ .tc) (r.shape.Idx → Elt F .bf16)) >>= k) Q :=
  step_load c (M := vM) J.v (Finset.subset_univ _) (hold_v c J) hk

/-! ## The barrier's wait -/

/-- What the wait on the own barrier cell needs, -/
def bar0 : sProp 𝕄 := iprop(cred (tallyAt (barCell c) () 15) ∗ atPos ER (barCell c) 0 ∅ 0)

theorem step_barrier (PA : Dev nD → Arr F) {α : Type} {Q : α → sProp 𝕄} {k : PUnit → Prog (TpuEff nD τ sig (Elt F) Λ₀ .tc) α} {B R : sProp 𝕄}
    (hk : iprop(B ∗ (pers PA K ∗ (∃ W, owes (c : Thread nD τ) (oweT 2 c 0 + oweT 0 c 0) W) ∗ bigSep (Finset.univ.erase c) (barPay c)
      ∗ atPos ER (barCell c) 1 ∅ 0 ∗ R)) ⊢ kwp c (k ⟨⟩) Q) :
    iprop(pers PA K ∗ sigSt c 16 ∗ (bar0 c ∗ B ∗ R)) ⊢ kwp c ((semWaitWord barS 15#32 : Prog (TpuEff nD τ sig (Elt F) Λ₀ .tc) PUnit) >>= k) Q := by
  simp only [semWaitWord, Prog.lift, Prog.bind_op, Prog.bind_ret]
  unfold pers bar0 sigSt phase
  beta_reduce
  rw [oweB_end, add_zero, todo_end, did_end, bigSep_empty]
  unfold pers at hk
  iintro ⟨⟨#Hrec, #Hlev⟩, ⟨⟨%W, Ho⟩, -, -⟩, ⟨Hc, Hat⟩, HB, HR⟩
  ihave Hi := (records_at PA K (c, none)) $$ Hrec
  icases Hi with ⟨#Hinv, #Hr⟩
  iapply (Rounds.wp_wait_rest_token 𝒱₀ ER (sched PA) (c : Thread nD τ) none (κ := K (c, none))
      (wpE_semWait_eq 𝒱₀ (c : Thread nD τ) none Set.univ) (Set.mem_univ _) () (O := oweT 2 c 0 + oweT 0 c 0) (W := W) (R := 0) (m := 0) (T := ∅)
      (by rw [Nat.zero_add]; exact (expect_bar PA c).symm)) $$ [Hc Ho Hat]
  · isplitr; · iexact Hinv
    isplitl [Hc]; · iexact Hc
    isplitl [Ho]; · iexact Ho
    isplitr; · iapply (mayWait_bar c); iexact Hlev
    iexact Hat
  iintro ⟨Ho, Hat, -, Hpay⟩
  ihave Hp := (Entails.of_eq (rest_bar PA c)) $$ Hpay
  iapply hk
  isplitl [HB]; · iexact HB
  isplitr; · isplitr; · iexact Hrec
             iexact Hlev
  isplitl [Ho]; · iexists _; iexact Ho
  isplitl [Hp]; · iexact Hp
  isplitl [Hat] <;> iassumption

/-! ## The parts up to the first half's store -/

/-- The query columns and the output rows as loaded, and the accumulator a product starts from. -/
abbrev wqV : FVec F S768x512 .bf16 := k0_pay1 (I c).wq
abbrev woV : FVec F S512x768 .bf16 := k0_pay2 (I c).wo
abbrev zeroQ : FVec F S256x512 .f32 := constant S256x512 .f32 0x00000000#32

theorem load_wq : wqM.view.readAt (Elt F) (Rect.unit (s := S768x512) ![0, 0] S768x512.size inb_S768x512_S768x512_0_0).toLoadRect (I c).wq = (I c).wq :=
  Memref.readAt_unit_zero (Elt F) cc0_stg1_0 (by funext a; fin_cases a <;> rfl) _ _
theorem load_wo : woM.view.readAt (Elt F) (Rect.unit (s := S512x768) ![0, 0] S512x768.size inb_S512x768_S512x768_0_0).toLoadRect (I c).wo = (I c).wo :=
  Memref.readAt_unit_zero (Elt F) cc0_stg2_0 (by funext a; fin_cases a <;> rfl) _ _

theorem part2 {Q : ((_ : FVec F S768x512 .bf16) ×' (_ : FVec F S512x768 .bf16) ×' (_ : FVec F S256x768 .bf16) ×' FVec F S256x512 .f32) → sProp 𝕄} {R : sProp 𝕄}
    (hk : iprop(insc c (I c) ∗ (pers (fun d => product (I d)) K ∗ (∃ W, owes (c : Thread nD τ) (oweT 2 c 0 + oweT 0 c 0) W) ∗ bigSep (Finset.univ.erase c) (barPay c) ∗ atPos ER (barCell c) 1 ∅ 0 ∗ R)) ⊢ Q ⟨wqV I c, woV I c, k0_pay3 (xAt (I c) 0), zeroQ⟩) :
    iprop(pers (fun d => product (I d)) K ∗ sigSt c 8 ∗ (bar0 c ∗ insc c (I c) ∗ R))
      ⊢ kwp c (k0_part2 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 c (v2of c) (SemArray.scalar (sig.barrier 0 rfl))) Q := by
  rw [k0_part2_eq_skeleton]; unfold k0_part2_skel
  iterate 8 refine step_signal _ K (by decide) (guard _ _) (fun _ => rfl) ?_
  refine step_barrier K c _ ?_
  refine step_wq c ?_
  refine step_wo c ?_
  refine step_x c ?_
  rw [load_wq, load_wo]
  exact step_pure c hk

theorem part3 {Q : ((_ : FVec F S256x512 .bf16) ×' (_ : FVec F S256x64 .bf16) ×' (_ : FVec F S512x64 .bf16) ×' (_ : FVec F S256x1 .f32) ×' FVec F S256x512 .bf16) → sProp 𝕄} {R : sProp 𝕄}
    (hk : iprop(insc c (I c) ∗ R) ⊢ Q ⟨queries (I c) 0, head (I c) 0 0, vals (I c) 0 1, sums (I c) 0 1, narrow (I c) 0 1⟩) :
    iprop(insc c (I c) ∗ R)
      ⊢ kwp c (k0_part3 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (wqV I c) (k0_pay3 (xAt (I c) 0)) zeroQ) Q := by
  rw [k0_part3_eq_skeleton]; unfold k0_part3_skel
  refine step_k c ?_
  refine step_v c ?_
  refine step_k c ?_
  refine step_v c ?_
  exact step_pure c hk

theorem part4 {Q : ((_ : FVec F S256x64 .bf16) ×' (_ : FVec F S256x64 .bf16) ×' (_ : FVec F S512x64 .bf16) ×' (_ : FVec F S256x1 .f32) ×' FVec F S256x512 .bf16) → sProp 𝕄} {R : sProp 𝕄}
    (hk : iprop(insc c (I c) ∗ R) ⊢ Q ⟨head (I c) 0 1, head (I c) 0 2, vals (I c) 0 3, sums (I c) 0 3, narrow (I c) 0 3⟩) :
    iprop(insc c (I c) ∗ R)
      ⊢ kwp c (k0_part4 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (queries (I c) 0) (vals (I c) 0 1) (sums (I c) 0 1) (narrow (I c) 0 1)) Q := by
  rw [k0_part4_eq_skeleton]; unfold k0_part4_skel
  refine step_k c ?_
  refine step_v c ?_
  refine step_k c ?_
  refine step_v c ?_
  exact step_pure c hk

theorem part5 {Q : ((_ : FVec F S256x64 .bf16) ×' (_ : FVec F S256x64 .bf16) ×' (_ : FVec F S512x64 .bf16) ×' (_ : FVec F S256x1 .f32) ×' FVec F S256x512 .bf16) → sProp 𝕄} {R : sProp 𝕄}
    (hk : iprop(insc c (I c) ∗ R) ⊢ Q ⟨head (I c) 0 3, head (I c) 0 4, vals (I c) 0 5, sums (I c) 0 5, narrow (I c) 0 5⟩) :
    iprop(insc c (I c) ∗ R)
      ⊢ kwp c (k0_part5 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (queries (I c) 0) (vals (I c) 0 3) (sums (I c) 0 3) (narrow (I c) 0 3)) Q := by
  rw [k0_part5_eq_skeleton]; unfold k0_part5_skel
  refine step_k c ?_
  refine step_v c ?_
  refine step_k c ?_
  refine step_v c ?_
  exact step_pure c hk

theorem part6 {Q : ((_ : FVec F S256x64 .bf16) ×' (_ : FVec F S256x64 .bf16) ×' (_ : FVec F S512x64 .bf16) ×' (_ : FVec F S256x1 .f32) ×' FVec F S256x512 .bf16) → sProp 𝕄} {R : sProp 𝕄}
    (hk : iprop(insc c (I c) ∗ R) ⊢ Q ⟨head (I c) 0 5, head (I c) 0 6, vals (I c) 0 7, sums (I c) 0 7, narrow (I c) 0 7⟩) :
    iprop(insc c (I c) ∗ R)
      ⊢ kwp c (k0_part6 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (queries (I c) 0) (vals (I c) 0 5) (sums (I c) 0 5) (narrow (I c) 0 5)) Q := by
  rw [k0_part6_eq_skeleton]; unfold k0_part6_skel
  refine step_k c ?_
  refine step_v c ?_
  refine step_k c ?_
  refine step_v c ?_
  exact step_pure c hk

/-! ## The first half's store -/

/-- The own buffer of the product, held whole. -/
def stg (f : Arr F) : sProp 𝕄 := stageM.view.loc (c : Thread nD τ) ↦[stageM.view.set]{fullShare} f

/-- It after batch `b`'s half is stored. -/
def put (b : Fin 2) (f : Arr F) : Arr F := (stageM.access (halfRect b)).write (Elt F) f (half (I c) b) Finset.univ

theorem step_peek {r : LoadRect S512x768} {hl : stageM.view.LoadsAt r} {α : Type} {Q : α → sProp 𝕄} {B R : sProp 𝕄} {f : Arr F}
    {k : (r.shape.Idx → Elt F .bf16) → Prog (TpuEff nD τ sig (Elt F) Λ₀ .tc) α}
    (hk : iprop(B ∗ stg c f ∗ R) ⊢ kwp c (k (stageM.view.readAt (Elt F) r f)) Q) :
    iprop(B ∗ stg c f ∗ R) ⊢ kwp c ((Prog.lift (.load stageM r hl) : Prog (TpuEff nD τ sig (Elt F) Λ₀ .tc) (r.shape.Idx → Elt F .bf16)) >>= k) Q := by
  refine step_load c (M := stageM) (q := fullShare) (S := stageM.view.set) f (View.setOn_subset_set _ _) ?_ hk
  unfold stg
  iintro ⟨HB, Hs, HR⟩
  isplitl [Hs]; · iexact Hs
  iintro Hs
  isplitl [HB]; · iexact HB
  isplitl [Hs] <;> iassumption

theorem step_put {r : Rect S512x768} {w : r.shape.Idx → Elt F .bf16} {hx : (stageM.access r).Stores Finset.univ} {hm} {α : Type} {Q : α → sProp 𝕄} {B R : sProp 𝕄} {f : Arr F}
    {k : PUnit → Prog (TpuEff nD τ sig (Elt F) Λ₀ .tc) α}
    (hk : iprop(B ∗ stg c ((stageM.access r).write (Elt F) f w Finset.univ) ∗ R) ⊢ kwp c (k ⟨⟩) Q) :
    iprop(B ∗ stg c f ∗ R) ⊢ kwp c ((Prog.lift (.store stageM r w Finset.univ hx hm) : Prog (TpuEff nD τ sig (Elt F) Λ₀ .tc) PUnit) >>= k) Q := by
  refine step_store c (M := stageM) (r := r) (S := stageM.view.set) f (Memref.setOn_access_subset _ _ _) ?_ hk
  unfold stg
  iintro ⟨HB, Hs, HR⟩
  isplitl [Hs]; · iexact Hs
  iintro Hs
  isplitl [HB]; · iexact HB
  isplitl [Hs] <;> iassumption

theorem part7 {Q : ((_ : FVec F S256x512 .bf16) ×' FVec F S256x64 .bf16) → sProp 𝕄} {R : sProp 𝕄} (f : Arr F)
    (hk : iprop(insc c (I c) ∗ stg c (put I c 0 f) ∗ R) ⊢ Q ⟨queries (I c) 1, head (I c) 1 0⟩) :
    iprop(insc c (I c) ∗ stg c f ∗ R)
      ⊢ kwp c (k0_part7 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (wqV I c) (woV I c) (head (I c) 0 0) (head (I c) 0 1) (head (I c) 0 2) (head (I c) 0 3) (head (I c) 0 4) (head (I c) 0 5) (head (I c) 0 6) (vals (I c) 0 7) (sums (I c) 0 7) (narrow (I c) 0 7)) Q := by
  rw [k0_part7_eq_skeleton]; unfold k0_part7_skel
  refine step_peek c ?_
  refine step_put c ?_
  refine step_x c ?_
  refine step_k c ?_
  refine step_v c ?_
  exact step_pure c hk

theorem part8 {Q : ((_ : FVec F S256x64 .bf16) ×' FVec F S256x64 .bf16) → sProp 𝕄} {R : sProp 𝕄}
    (hk : iprop(insc c (I c) ∗ R) ⊢ Q ⟨head (I c) 1 1, head (I c) 1 2⟩) :
    iprop(insc c (I c) ∗ R)
      ⊢ kwp c (k0_part8 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (queries (I c) 1)) Q := by
  rw [k0_part8_eq_skeleton]; unfold k0_part8_skel
  refine step_k c ?_
  refine step_v c ?_
  refine step_k c ?_
  refine step_v c ?_
  exact step_pure c hk

theorem part9 {Q : ((_ : FVec F S256x64 .bf16) ×' FVec F S256x64 .bf16) → sProp 𝕄} {R : sProp 𝕄}
    (hk : iprop(insc c (I c) ∗ R) ⊢ Q ⟨head (I c) 1 3, head (I c) 1 4⟩) :
    iprop(insc c (I c) ∗ R)
      ⊢ kwp c (k0_part9 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (queries (I c) 1)) Q := by
  rw [k0_part9_eq_skeleton]; unfold k0_part9_skel
  refine step_k c ?_
  refine step_v c ?_
  refine step_k c ?_
  refine step_v c ?_
  exact step_pure c hk

theorem part10 {Q : ((_ : FVec F S256x64 .bf16) ×' FVec F S256x64 .bf16) → sProp 𝕄} {R : sProp 𝕄}
    (hk : iprop(insc c (I c) ∗ R) ⊢ Q ⟨head (I c) 1 5, head (I c) 1 6⟩) :
    iprop(insc c (I c) ∗ R)
      ⊢ kwp c (k0_part10 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 (queries (I c) 1)) Q := by
  rw [k0_part10_eq_skeleton]; unfold k0_part10_skel
  refine step_k c ?_
  refine step_v c ?_
  refine step_k c ?_
  refine step_v c ?_
  exact step_pure c hk

end Cert.Fused
-- ==== Proof.Mixed.lean ====
/-
The parts where the computation meets the exchange: the second half's store with the first transfer, and the sum over the
gathered chunks with the transfers of the result.
-/
module

public import proofs.«01_k».proof.Proof.Local
public import Idealize.ShloMosaic.Lib.Pipeline.Value

@[expose] public section

set_option maxRecDepth 65536
set_option maxHeartbeats 1000000

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × CI → ℕ) (I : Dev nD → Ins F) (c : Dev nD)

/-- Every device's partial product. -/
abbrev PI : Dev nD → Arr F := fun d => product (I d)

/-! ## The product is its two halves -/

theorem mem_half (b : Fin 2) (i : S512x768.Idx) : i ∈ (halfRect b).set ↔ batchOf i = b := by
  have h1 : (i 1).val < 768 := (i 1).isLt
  rw [Rect.mem_set_unit]
  constructor
  · intro h
    have := h 0
    simp only [Matrix.cons_val_zero] at this
    have e : S256x768.size 0 = 256 := rfl
    exact Fin.ext (by simp only [batchOf]; omega)
  · rintro rfl a
    fin_cases a
    · show 256 * ((i 0).val / 256) ≤ (i 0).val ∧ (i 0).val < 256 * ((i 0).val / 256) + 256
      omega
    · exact ⟨Nat.zero_le _, by simpa using h1⟩

theorem emb_inHalf (i : S512x768.Idx) : (halfRect (batchOf i)).emb (inHalf i) = i := by
  funext a
  fin_cases a
  · refine Fin.ext ?_
    show 256 * ((i 0).val / 256) + 1 * ((i 0).val % 256) = (i 0).val
    omega
  · refine Fin.ext ?_
    show 0 + 1 * (i 1).val = (i 1).val
    omega

theorem put_in (b : Fin 2) (f : Arr F) (i : S512x768.Idx) (h : batchOf i = b) : put I c b f i = product (I c) i := by
  subst h
  have := View.write_emb_of_mem (v := stageM.access (halfRect (batchOf i))) (Val := Elt F) f (half (I c) (batchOf i)) (Finset.mem_univ (inHalf i))
  have e : (stageM.access (halfRect (batchOf i))).emb (inHalf i) = i := emb_inHalf i
  rw [e] at this
  exact this

theorem put_out (b : Fin 2) (f : Arr F) (i : S512x768.Idx) (h : batchOf i ≠ b) : put I c b f i = f i := by
  refine View.write_of_not_mem (v := stageM.access (halfRect b)) (Val := Elt F) f _ _ fun hm => h ?_
  obtain ⟨j, -, hj⟩ := Finset.mem_map.mp hm
  have hj' : (halfRect b).emb j = i := hj
  exact (mem_half b i).mp (hj' ▸ (halfRect b).idx_mem j)

/-- Both halves stored, the buffer holds the product. -/
theorem put_put (f : Arr F) : put I c 1 (put I c 0 f) = product (I c) := by
  funext i
  by_cases h : batchOf i = 1
  · exact put_in I c 1 _ i h
  · rw [put_out I c 1 _ i h]
    exact put_in I c 0 f i (by have := (batchOf i).isLt; exact Fin.ext (by have h' : (batchOf i).val ≠ 1 := fun e => h (Fin.ext e); show (batchOf i).val = 0; omega))

/-! ## The own chunk -/

theorem off1_eq : ∀ c : Dev nD, k0_off1 c = ![32 * c.val, 0] := by decide

theorem peek_own (M : Memref sig .tc .vmem S512x768 .bf16) {o : Fin 2 → ℕ} (ho : o = ![32 * c.val, 0]) {inb} {hl : M.view.LoadsAt (Rect.unit (s := S512x768) o S32x768.size inb).toLoadRect}
    {α : Type} {Q : α → sProp 𝕄} {B R : sProp 𝕄} {g : Buf (Elt F) (M.view.loc (c : Thread nD τ))}
    {k : ((Rect.unit (s := S512x768) o S32x768.size inb).toLoadRect.shape.Idx → Elt F .bf16) → Prog (TpuEff nD τ sig (Elt F) Λ₀ .tc) α}
    (hk : ∀ x, iprop(B ∗ held M c c fullShare g ∗ R) ⊢ kwp c (k x) Q) :
    iprop(B ∗ held M c c fullShare g ∗ R) ⊢ kwp c ((Prog.lift (.load M (Rect.unit (s := S512x768) o S32x768.size inb).toLoadRect hl)
      : Prog (TpuEff nD τ sig (Elt F) Λ₀ .tc) ((Rect.unit (s := S512x768) o S32x768.size inb).toLoadRect.shape.Idx → Elt F .bf16)) >>= k) Q := by
  subst ho
  refine step_load c (M := M) (q := fullShare) (S := (chk M c).view.set) g ?_ ?_ (hk _)
  · rw [chk_set]; exact Finset.Subset.refl _
  unfold held
  iintro ⟨HB, Hs, HR⟩
  isplitl [Hs]; · iexact Hs
  iintro Hs
  isplitl [HB]; · iexact HB
  isplitl [Hs] <;> iassumption

theorem put_own (M : Memref sig .tc .vmem S512x768 .bf16) {o : Fin 2 → ℕ} (ho : o = ![32 * c.val, 0]) {inb} {w : S32x768.Idx → Elt F .bf16}
    {hx : (M.access (Rect.unit (s := S512x768) o S32x768.size inb)).Stores Finset.univ} {hm}
    {α : Type} {Q : α → sProp 𝕄} {B R : sProp 𝕄} {g : Buf (Elt F) (M.view.loc (c : Thread nD τ))} (g' : Buf (Elt F) (M.view.loc (c : Thread nD τ)))
    (hg : (chk M c).view.read (Elt F) g' = w) {k : PUnit → Prog (TpuEff nD τ sig (Elt F) Λ₀ .tc) α}
    (hk : iprop(B ∗ held M c c fullShare g' ∗ R) ⊢ kwp c (k ⟨⟩) Q) :
    iprop(B ∗ held M c c fullShare g ∗ R) ⊢ kwp c ((Prog.lift (.store M (Rect.unit (s := S512x768) o S32x768.size inb) w Finset.univ hx hm)
      : Prog (TpuEff nD τ sig (Elt F) Λ₀ .tc) PUnit) >>= k) Q := by
  subst ho
  have e : (held M c c fullShare g' : sProp 𝕄) = held M c c fullShare ((chk M c).view.write (Elt F) g w Finset.univ) :=
    held_congr M c c fullShare _ _ (hg.trans (read_write M c g w).symm)
  rw [e] at hk
  refine step_store c (M := M) (r := rows c) (S := (chk M c).view.set) g ?_ ?_ hk
  · exact Finset.Subset.refl _
  unfold held
  iintro ⟨HB, Hs, HR⟩
  isplitl [Hs]; · iexact Hs
  iintro Hs
  isplitl [HB]; · iexact HB
  isplitl [Hs] <;> iassumption

theorem kept_own {o : Fin 2 → ℕ} (ho : o = ![32 * c.val, 0]) (inb) (PA : Dev nD → Arr F) :
    (chk commM c).view.read (Elt F) (gathered PA c) = k0_pay38 (stageM.view.readAt (Elt F) (Rect.unit (s := S512x768) o S32x768.size inb).toLoadRect (PA c)) := by
  subst ho
  rw [read_gathered]
  exact (shapeCast_self _ _).symm

/-! ## What the transfers of the products start from -/

/-- The duty tokens of the first exchange, -/
def toks1 : sProp 𝕄 := bigSep (Finset.univ.erase c) fun d => iprop(dutyTok ER (dcell c 1 d) 0 d ∗ dutyTok ER (dcell d 0 c) 0 c)
/-- of the second, -/
def toks3 : sProp 𝕄 := bigSep (Finset.univ.erase c) fun d => iprop(dutyTok ER (dcell c 3 d) 0 d ∗ dutyTok ER (dcell d 2 c) 0 c)
/-- and the peers' landing places for the result. -/
def outs : sProp 𝕄 := bigSep (Finset.univ.erase c) fun d => iprop(∃ f, held (F := F) outM d c fullShare f)

theorem start_send (PA : Dev nD → Arr F) {B R : sProp 𝕄} :
    iprop(B ∗ held commM c c fullShare (gathered PA c) ∗ (stg c (PA c) ∗ pers PA K ∗ (∃ W, owes (c : Thread nD τ) (oweT 2 c 0 + oweT 0 c 0) W)
        ∗ bigSep (Finset.univ.erase c) (barPay c) ∗ toks1 c ∗ R))
      ⊢ iprop(pers PA K ∗ sendSt PA c 0 ∗ (B ∗ held stageM c c fullShare (PA c) ∗ held commM c c fullShare (gathered PA c) ∗ outs c ∗ R)) := by
  unfold stg toks1 outs sendSt phase barPay sendΦ
  rw [whole_chunks, bigSep_erase (Finset.mem_univ c), bigSep_sep', todo_zero, did_zero, bigSep_empty, bigSep_sep', bigSep_sep', bigSep_sep']
  show iprop(B ∗ held commM c c fullShare (gathered PA c) ∗ ((held stageM c c fullShare (PA c) ∗ bigSep (Finset.univ.erase c) fun d => held stageM c d fullShare (PA c)) ∗ pers PA K ∗ (∃ W, owes (c : Thread nD τ) (oweT 2 c 0 + oweT 0 c 0) W)
        ∗ _ ∗ _ ∗ R)) ⊢ _
  rw [bigSep_sep']
  iintro ⟨HB, Hown, ⟨Hs, Hss⟩, Hp, Ho, ⟨Hcs, Hos⟩, ⟨Ht, Ht'⟩, HR⟩
  isplitl [Hp]; · iexact Hp
  isplitl [Ho Hss Hcs Ht Ht']
  · isplitl [Ho]; · iexact Ho
    isplitl [Hss Hcs Ht Ht']
    · isplitl [Hss]; · iexact Hss
      isplitl [Hcs]; · iexact Hcs
      isplitl [Ht] <;> iassumption
    iempintro
  isplitl [HB]; · iexact HB
  isplitl [Hs]; · iexact Hs
  isplitl [Hown]; · iexact Hown
  isplitl [Hos] <;> iassumption

theorem part11 {Q : PUnit → sProp 𝕄} {R : sProp 𝕄} (f : Arr F) (g : Arr F)
    (hk : iprop(pers (PI I) K ∗ sendSt (PI I) c 1 ∗ (insc c (I c) ∗ held stageM c c fullShare (PI I c) ∗ held commM c c fullShare (gathered (PI I) c) ∗ outs c ∗ R)) ⊢ Q ⟨⟩) :
    iprop(insc c (I c) ∗ stg c (put I c 0 f) ∗ (held commM c c fullShare g ∗ pers (PI I) K ∗ (∃ W, owes (c : Thread nD τ) (oweT 2 c 0 + oweT 0 c 0) W)
        ∗ bigSep (Finset.univ.erase c) (barPay c) ∗ toks1 c ∗ R))
      ⊢ kwp c (k0_part11 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 c (v2of c) (woV I c) (queries (I c) 1) (head (I c) 1 0) (head (I c) 1 1) (head (I c) 1 2) (head (I c) 1 3)
          (head (I c) 1 4) (head (I c) 1 5) (head (I c) 1 6)) Q := by
  rw [k0_part11_eq_skeleton]; unfold k0_part11_skel
  refine step_k c ?_
  refine step_v c ?_
  refine step_peek c ?_
  refine step_put c ?_
  refine (Entails.of_eq (congrArg (fun g => iprop(insc c (I c) ∗ stg c g ∗ _)) (put_put I c f))).trans ?_
  refine step_peek c ?_
  refine BIBase.Entails.trans (Q := iprop(insc c (I c) ∗ held commM c c fullShare g ∗ (stg c (product (I c)) ∗ pers (PI I) K ∗ (∃ W, owes (c : Thread nD τ) (oweT 2 c 0 + oweT 0 c 0) W)
        ∗ bigSep (Finset.univ.erase c) (barPay c) ∗ toks1 c ∗ R))) ?_ ?_
  · iintro ⟨HB, Hs, Hg, HR⟩
    isplitl [HB]; · iexact HB
    isplitl [Hg]; · iexact Hg
    isplitl [Hs] <;> iassumption
  refine peek_own c commM (off1_eq c) fun _ => ?_
  refine put_own c commM (off1_eq c) (gathered (PI I) c) (kept_own c (off1_eq c) _ (PI I)) ?_
  refine (start_send K c (PI I)).trans ?_
  refine step_product (PI I) K (by decide) (guard _ _) (fun _ => rfl) rfl (by decide) rfl (by decide) ?_
  exact step_pure c hk

/-! ## The sum over the gathered chunks, and what the transfers of the result start from -/

/-- The landing buffer held whole, -/
def comW (f : Arr F) : sProp 𝕄 := commM.view.loc (c : Thread nD τ) ↦[commM.view.set]{fullShare} f
/-- the positions past the round of a bank's cells. -/
def done (b : Fin 4) : sProp 𝕄 := bigSep (Finset.univ.erase c) fun d => atPos ER (dcell c b d) 1 ∅ 0

theorem bankPay_zero (PA : Dev nD → Arr F) (d : Dev nD) : bankPay PA c ((0 : Fin 4).val + 1) d = held commM c d fullShare (gathered PA c) := rfl

theorem collect (PA : Dev nD → Arr F) {g : Arr F} {R : sProp 𝕄} :
    iprop(pers PA K ∗ landSt PA c 16 ∗ (held commM c c fullShare (gathered PA c) ∗ held outM c c fullShare g ∗ R))
      ⊢ iprop(pers PA K ∗ comW c (gathered PA c) ∗ (held outM c c fullShare g ∗ (∃ W, owes (c : Thread nD τ) (oweT 2 c 0) W) ∗ done c 0 ∗ R)) := by
  unfold landSt phase comW done waitΨ
  rw [whole_chunks, bigSep_erase (Finset.mem_univ c) (Φ := fun d => held commM c d fullShare (gathered PA c)), todo_end, did_end, bigSep_sep']
  show _ ⊢ iprop(pers PA K ∗ (held commM c c fullShare (gathered PA c) ∗ bigSep (Finset.univ.erase c) fun d => held commM c d fullShare (gathered PA c)) ∗ _)
  iintro ⟨Hp, ⟨Ho, -, Hat, Hpay⟩, Hc, Hg, HR⟩
  isplitl [Hp]; · iexact Hp
  isplitl [Hc Hpay]
  · isplitl [Hc]; · iexact Hc
    iexact Hpay
  isplitl [Hg]; · iexact Hg
  isplitl [Ho]; · iexact Ho
  isplitl [Hat]; · iexact Hat
  iexact HR

theorem step_comm {r : LoadRect S512x768} {hl : commM.view.LoadsAt r} {α : Type} {Q : α → sProp 𝕄} {B R : sProp 𝕄} {f : Arr F}
    {k : (r.shape.Idx → Elt F .bf16) → Prog (TpuEff nD τ sig (Elt F) Λ₀ .tc) α}
    (hk : iprop(B ∗ comW c f ∗ R) ⊢ kwp c (k (commM.view.readAt (Elt F) r f)) Q) :
    iprop(B ∗ comW c f ∗ R) ⊢ kwp c ((Prog.lift (.load commM r hl) : Prog (TpuEff nD τ sig (Elt F) Λ₀ .tc) (r.shape.Idx → Elt F .bf16)) >>= k) Q := by
  refine step_load c (M := commM) (q := fullShare) (S := commM.view.set) f (View.setOn_subset_set _ _) ?_ hk
  unfold comW
  iintro ⟨HB, Hs, HR⟩
  isplitl [Hs]; · iexact Hs
  iintro Hs
  isplitl [HB]; · iexact HB
  isplitl [Hs] <;> iassumption

theorem summed_own (PA : Dev nD → Arr F) (inb) :
    (chk outM c).view.read (Elt F) (result PA)
      = k0_pay39 (commM.view.readAt (Elt F) (Rect.unit (s := S512x768) ![0, 0] S512x768.size inb).toLoadRect (gathered PA c)) := by
  rw [read_result]
  refine congrArg k0_pay39 (Eq.symm ?_)
  exact Memref.readAt_unit_zero (Elt F) cc0_scratch1 (by funext a; fin_cases a <;> rfl) _ _

theorem leaves (f : Arr F) : (held outM c c fullShare f : sProp 𝕄)
    = iprop(held outM c c (ShareLeaves.leaf 4 fullShare (c : Fin 16)) f ∗ bigSep (Finset.univ.erase c) fun d : Dev nD => held outM c c (ShareLeaves.leaf 4 fullShare (d : Fin 16)) f) := by
  refine Eq.trans ?_ (bigSep_erase (s := (Finset.univ : Finset (Dev nD))) (Finset.mem_univ c) (Φ := fun d : Dev nD => held outM c c (ShareLeaves.leaf 4 fullShare (d : Fin 16)) f))
  exact ShareLeaves.pointsTo_leaves (ℓ := outM.view.loc (c : Thread nD τ)) (chk outM c).view.set f 4 fullShare

theorem start_share (PA : Dev nD → Arr F) {R : sProp 𝕄} :
    iprop(pers PA K ∗ held outM c c fullShare (result PA) ∗ (comW c (gathered PA c) ∗ (∃ W, owes (c : Thread nD τ) (oweT 2 c 0) W) ∗ done c 0 ∗ outs c ∗ toks3 c ∗ R))
      ⊢ iprop(pers PA K ∗ shareSt PA c 0 ∗ (comW c (gathered PA c) ∗ done c 0 ∗ held outM c c (ShareLeaves.leaf 4 fullShare (c : Fin 16)) (result PA) ∗ R)) := by
  unfold toks3 outs shareSt phase shareΦ
  rw [leaves, todo_zero, did_zero, bigSep_empty, bigSep_sep', bigSep_sep', bigSep_sep', bigSep_sep']
  iintro ⟨Hp, ⟨Hown, Hl⟩, Hc, Ho, Hd, Hos, ⟨Ht, Ht'⟩, HR⟩
  isplitl [Hp]; · iexact Hp
  isplitl [Ho Hl Hos Ht Ht']
  · isplitl [Ho]; · iexact Ho
    isplitl [Hl Hos Ht Ht']
    · isplitl [Hl]; · iexact Hl
      isplitl [Hos]; · iexact Hos
      isplitl [Ht] <;> iassumption
    iempintro
  isplitl [Hc]; · iexact Hc
  isplitl [Hd]; · iexact Hd
  isplitl [Hown] <;> iassumption

theorem part15 (PA : Dev nD → Arr F) {Q : BitVec 32 → sProp 𝕄} {R : sProp 𝕄} (g : Arr F)
    (hk : ∀ v, iprop(pers PA K ∗ shareSt PA c 7 ∗ (comW c (gathered PA c) ∗ done c 0 ∗ held outM c c (ShareLeaves.leaf 4 fullShare (c : Fin 16)) (result PA) ∗ R)) ⊢ Q v) :
    iprop(pers PA K ∗ landSt PA c 15 ∗ (held commM c c fullShare (gathered PA c) ∗ held outM c c fullShare g ∗ (outs c ∗ toks3 c ∗ R)))
      ⊢ kwp c (k0_part15 (F := F) xM (Memref.isWhole_whole _) wqM (Memref.isWhole_whole _) woM (Memref.isWhole_whole _) kM (Memref.isWhole_whole _) vM (Memref.isWhole_whole _)
        outM (Memref.isWhole_whole _) stageM (Memref.isWhole_whole _) commM (Memref.isWhole_whole _) cc0_scratch2 cc0_scratch3 cc0_scratch4 cc0_scratch5 c (v2of c) (Scalar.cmpi .ne (ne32 c 15#32) 0#32)) Q := by
  rw [k0_part15_eq_skeleton]; unfold k0_part15_skel
  refine step_wait PA K 0 (oweT 2 c 0) (mayWait_land c) (by decide) (guard _ _) rfl laid0 (fun _ => credit_comm _ _) ?_
  refine (collect K c PA).trans ?_
  refine step_comm c ?_
  refine BIBase.Entails.trans (Q := iprop(pers PA K ∗ held outM c c fullShare g ∗ (comW c (gathered PA c) ∗ (∃ W, owes (c : Thread nD τ) (oweT 2 c 0) W) ∗ done c 0 ∗ outs c ∗ toks3 c ∗ R))) ?_ ?_
  · iintro ⟨Hp, Hc, Hg, HR⟩
    isplitl [Hp]; · iexact Hp
    isplitl [Hg]; · iexact Hg
    isplitl [Hc] <;> iassumption
  refine peek_own c outM (off1_eq c) fun _ => ?_
  refine put_own c outM (off1_eq c) (result PA) (summed_own c PA _) ?_
  refine (start_share K c PA).trans ?_
  iterate 7 refine step_result PA K (by decide) (guard _ _) (fun _ => rfl) (by decide) rfl (by decide) ?_
  exact step_pure c (hk _)

end Cert.Fused
-- ==== Proof.Body.lean ====
/-
The whole body at a symbolic device: the parts one after another, from the state the launch hands over to the result.
-/
module

public import proofs.«01_k».proof.Proof.Mixed
public import Idealize.ShloMosaic.Lib.Pipeline.Value

@[expose] public section

set_option maxRecDepth 65536
set_option maxHeartbeats 1000000

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (K : Dev nD × CI → ℕ) (I : Dev nD → Ins F) (c : Dev nD)

/-- The positions before the round of a bank's cells. -/
def fresh (b : Fin 4) : sProp 𝕄 := bigSep (Finset.univ.erase c) fun d => atPos ER (dcell c b d) 0 ∅ 0
/-- The state of a bank's waits before the first of them, -/
abbrev wait0 (b : Fin 4) : sProp 𝕄 := bigSep (Finset.univ.erase c) (waitΦ b c)
/-- what they have handed over after the last, -/
abbrev wait1 (PA : Dev nD → Arr F) (b : Fin 4) : sProp 𝕄 := bigSep (Finset.univ.erase c) (waitΨ PA b c)
/-- and the units the transfers leave for them. -/
abbrev cred0 (b : Fin 4) : sProp 𝕄 := bigSep (Finset.univ.erase c) (credΨ b c)
/-- The device's own chunk of the result, under the share no transfer takes. -/
abbrev leaf0 (PA : Dev nD → Arr F) : sProp 𝕄 := held outM c c (ShareLeaves.leaf 4 fullShare (c : Fin 16)) (result PA)
/-- The result's buffer held whole. -/
def outW (f : Arr F) : sProp 𝕄 := outM.view.loc (c : Thread nD τ) ↦[outM.view.set]{fullShare} f
/-- Owing nothing. -/
def idle : sProp 𝕄 := iprop(∃ W, owes (c : Thread nD τ) 0 W)

theorem wait0_of (b : Fin 4) : iprop(cred0 c b ∗ fresh c b) ⊢ (wait0 c b : sProp 𝕄) := by
  unfold cred0 fresh wait0 waitΦ credΨ
  rw [bigSep_sep']

/-- What the body starts from. -/
def bodyStart (f g h : Arr F) : sProp 𝕄 :=
  iprop(pers (PI I) K ∗ sigSt c 0 ∗ insc c (I c) ∗ stg c f ∗ held commM c c fullShare g ∗ held outM c c fullShare h
    ∗ bar0 c ∗ toks1 c ∗ toks3 c ∗ wait0 c 0 ∗ wait0 c 2 ∗ fresh c 1 ∗ fresh c 3)

/-- What it ends with. -/
def bodyEnd : sProp 𝕄 :=
  iprop(pers (PI I) K ∗ idle c ∗ insc c (I c) ∗ stg c (PI I c) ∗ comW c (gathered (PI I) c) ∗ outW c (result (PI I))
    ∗ atPos ER (barCell c) 1 ∅ 0 ∗ done c 0 ∗ done c 1 ∗ done c 2 ∗ done c 3)

theorem bankPay_one (PA : Dev nD → Arr F) (d : Dev nD) : bankPay PA c ((1 : Fin 4).val + 1) d = held stageM c d fullShare (PA c) := rfl
theorem bankPay_two (PA : Dev nD → Arr F) (d : Dev nD) : bankPay PA c ((2 : Fin 4).val + 1) d = held outM c d fullShare (result PA) := rfl
theorem bankPay_three (PA : Dev nD → Arr F) (d : Dev nD) : bankPay PA c ((3 : Fin 4).val + 1) d = held outM c c (ShareLeaves.leaf 4 fullShare (d : Fin 16)) (result PA) := rfl

theorem end_stage : iprop(wait1 c (PI I) 1 ∗ held stageM c c fullShare (PI I c)) ⊢ iprop(done c 1 ∗ stg c (PI I c)) := by
  unfold wait1 waitΨ done stg
  rw [bigSep_sep', whole_chunks, bigSep_erase (Finset.mem_univ c) (Φ := fun d => held stageM c d fullShare (PI I c))]
  show _ ⊢ iprop(_ ∗ held stageM c c fullShare (PI I c) ∗ bigSep (Finset.univ.erase c) fun d => held stageM c d fullShare (PI I c))
  iintro ⟨⟨Hd, Hp⟩, Hs⟩
  isplitl [Hd]; · iexact Hd
  isplitl [Hs]; · iexact Hs
  iexact Hp

theorem end_own (PA : Dev nD → Arr F) : iprop(wait1 c PA 3 ∗ leaf0 c PA) ⊢ iprop(done c 3 ∗ held outM c c fullShare (result PA)) := by
  unfold wait1 waitΨ done leaf0
  rw [bigSep_sep', leaves]
  iintro ⟨⟨Hd, Hp⟩, Hs⟩
  isplitl [Hd]; · iexact Hd
  isplitl [Hs]; · iexact Hs
  iexact Hp

theorem end_out (PA : Dev nD → Arr F) : iprop(wait1 c PA 2 ∗ held outM c c fullShare (result PA)) ⊢ iprop(done c 2 ∗ outW c (result PA)) := by
  unfold wait1 waitΨ done outW
  rw [bigSep_sep', whole_chunks, bigSep_erase (Finset.mem_univ c) (Φ := fun d => held outM c d fullShare (result PA))]
  show _ ⊢ iprop(_ ∗ held outM c c fullShare (result PA) ∗ bigSep (Finset.univ.erase c) fun d => held outM c d fullShare (result PA))
  iintro ⟨⟨Hd, Hp⟩, Hs⟩
  isplitl [Hd]; · iexact Hd
  isplitl [Hs]; · iexact Hs
  iexact Hp

/-- After the last wait everything is together again. -/
theorem gather_end : iprop(pers (PI I) K ∗ lateSt (PI I) c 3 16 ∗ (wait1 c (PI I) 2 ∗ wait1 c (PI I) 1 ∗ comW c (gathered (PI I) c) ∗ done c 0
      ∗ leaf0 c (PI I) ∗ insc c (I c) ∗ held stageM c c fullShare (PI I c) ∗ atPos ER (barCell c) 1 ∅ 0)) ⊢ bodyEnd K I c := by
  unfold lateSt phase bodyEnd
  rw [todo_end, did_end]
  show iprop(_ ∗ (_ ∗ _ ∗ wait1 c (PI I) 3) ∗ _) ⊢ _
  iintro ⟨Hp, ⟨Ho, -, H3⟩, H2, H1, Hc, Hd0, Hl, Hi, Hs, Hb⟩
  ihave ⟨Hd1, Hs⟩ := (end_stage I c) $$ [H1 Hs]
  · isplitl [H1] <;> iassumption
  ihave ⟨Hd3, Hl⟩ := (end_own c (PI I)) $$ [H3 Hl]
  · isplitl [H3]; · iexact H3
    iexact Hl
  ihave ⟨Hd2, Hl⟩ := (end_out c (PI I)) $$ [H2 Hl]
  · isplitl [H2] <;> iassumption
  unfold idle
  iframe

set_option maxHeartbeats 4000000 in
/-- The run of the body. -/
theorem body_run (f g h : Arr F) :
    bodyStart K I c f g h ⊢ kwp c (cc0_body (F := F) xM (Memref.isWhole_whole _) wqM (Memref.isWhole_whole _) woM (Memref.isWhole_whole _) kM (Memref.isWhole_whole _) vM (Memref.isWhole_whole _) outM (Memref.isWhole_whole _) stageM (Memref.isWhole_whole _) commM (Memref.isWhole_whole _) cc0_scratch2 cc0_scratch3 cc0_scratch4 cc0_scratch5) fun _ => bodyEnd K I c := by
  rw [cc0_body_eq_skeleton]; unfold cc0_body_skel
  unfold bodyStart
  refine BIBase.Entails.trans (Q := iprop(pers (PI I) K ∗ sigSt c 0 ∗ (bar0 c ∗ insc c (I c) ∗ (stg c f ∗ held commM c c fullShare g ∗ held outM c c fullShare h ∗ toks1 c ∗ toks3 c ∗ wait0 c 0 ∗ wait0 c 2 ∗ fresh c 1 ∗ fresh c 3)))) (by iintro ⟨P, S, X, Y, C, O, B, T1, T3, W0, W2, F1, F3⟩; iframe) ?_
  refine step_bind c (part1 (PI I) K c ?_)
  beta_reduce; dsimp only
  refine step_bind c (part2 K I c ?_)
  beta_reduce; dsimp only
  refine step_bind c (part3 I c ?_)
  beta_reduce; dsimp only
  refine step_bind c (part4 I c ?_)
  beta_reduce; dsimp only
  refine step_bind c (part5 I c ?_)
  beta_reduce; dsimp only
  refine step_bind c (part6 I c ?_)
  beta_reduce; dsimp only
  refine BIBase.Entails.trans (Q := iprop(insc c (I c) ∗ stg c f ∗ (pers (PI I) K ∗ (∃ W, owes (c : Thread nD τ) (oweT 2 c 0 + oweT 0 c 0) W) ∗ bigSep (Finset.univ.erase c) (barPay c) ∗ atPos ER (barCell c) 1 ∅ 0 ∗ held commM c c fullShare g ∗ held outM c c fullShare h ∗ toks1 c ∗ toks3 c ∗ wait0 c 0 ∗ wait0 c 2 ∗ fresh c 1 ∗ fresh c 3))) (by iintro ⟨X, P, O, BP, AB, Y, C, OU, T1, T3, W0, W2, F1, F3⟩; iframe) ?_
  refine step_bind c (part7 I c f ?_)
  beta_reduce; dsimp only
  refine step_bind c (part8 I c ?_)
  beta_reduce; dsimp only
  refine step_bind c (part9 I c ?_)
  beta_reduce; dsimp only
  refine step_bind c (part10 I c ?_)
  beta_reduce; dsimp only
  refine BIBase.Entails.trans (Q := iprop(insc c (I c) ∗ stg c (put I c 0 f) ∗ (held commM c c fullShare g ∗ pers (PI I) K ∗ (∃ W, owes (c : Thread nD τ) (oweT 2 c 0 + oweT 0 c 0) W) ∗ bigSep (Finset.univ.erase c) (barPay c) ∗ toks1 c ∗ (held outM c c fullShare h ∗ atPos ER (barCell c) 1 ∅ 0 ∗ toks3 c ∗ wait0 c 0 ∗ wait0 c 2 ∗ fresh c 1 ∗ fresh c 3)))) (by iintro ⟨X, Y, P, O, BP, AB, C, OU, T1, T3, W0, W2, F1, F3⟩; iframe) ?_
  refine step_bind c (part11 K I c f g ?_)
  beta_reduce
  refine step_bind c (part12 (PI I) K c ?_)
  beta_reduce
  refine BIBase.Entails.trans (Q := iprop(pers (PI I) K ∗ sendSt (PI I) c 11 ∗ (wait0 c 0 ∗ (insc c (I c) ∗ held stageM c c fullShare (PI I c) ∗ held commM c c fullShare (gathered (PI I) c) ∗ outs c ∗ held outM c c fullShare h ∗ atPos ER (barCell c) 1 ∅ 0 ∗ toks3 c ∗ wait0 c 2 ∗ fresh c 1 ∗ fresh c 3)))) (by iintro ⟨P, S, X, Y, C, OS, OU, AB, T3, W0, W2, F1, F3⟩; iframe) ?_
  refine step_bind c (part13 (PI I) K c ?_)
  beta_reduce
  refine step_bind c (part14 (PI I) K c ?_)
  beta_reduce
  refine BIBase.Entails.trans (Q := iprop(pers (PI I) K ∗ landSt (PI I) c 15 ∗ (held commM c c fullShare (gathered (PI I) c) ∗ held outM c c fullShare h ∗ (outs c ∗ toks3 c ∗ ((cred0 c 1 ∗ fresh c 1) ∗ insc c (I c) ∗ held stageM c c fullShare (PI I c) ∗ atPos ER (barCell c) 1 ∅ 0 ∗ wait0 c 2 ∗ fresh c 3))))) (by iintro ⟨P, S, C1, X, Y, C, OS, OU, AB, T3, W2, F1, F3⟩; iframe) ?_
  refine step_bind c (part15 K c (PI I) h fun v => ?_)
  beta_reduce
  refine BIBase.Entails.trans (Q := iprop(pers (PI I) K ∗ shareSt (PI I) c 7 ∗ (wait0 c 1 ∗ (comW c (gathered (PI I) c) ∗ done c 0 ∗ leaf0 c (PI I) ∗ insc c (I c) ∗ held stageM c c fullShare (PI I c) ∗ atPos ER (barCell c) 1 ∅ 0 ∗ wait0 c 2 ∗ fresh c 3)))) (by
    iintro ⟨P, S, C, D, LF, CF, X, Y, AB, W2, F3⟩
    ihave W1 := (wait0_of c 1) $$ CF
    iframe) ?_
  refine step_bind c (part16 (PI I) K c v ?_)
  beta_reduce
  refine step_bind c (part17 (PI I) K c ?_)
  beta_reduce
  refine BIBase.Entails.trans (Q := iprop(pers (PI I) K ∗ lateSt (PI I) c 1 11 ∗ (wait0 c 2 ∗ ((cred0 c 3 ∗ fresh c 3) ∗ comW c (gathered (PI I) c) ∗ done c 0 ∗ leaf0 c (PI I) ∗ insc c (I c) ∗ held stageM c c fullShare (PI I c) ∗ atPos ER (barCell c) 1 ∅ 0)))) (by iintro ⟨P, S, C3, C, D, LF, X, Y, AB, W2, F3⟩; iframe) ?_
  refine step_bind c (part18 (PI I) K c ?_)
  beta_reduce
  refine step_bind c (part19 (PI I) K c ?_)
  beta_reduce
  refine BIBase.Entails.trans (Q := iprop(pers (PI I) K ∗ lateSt (PI I) c 2 15 ∗ (wait0 c 3 ∗ (wait1 c (PI I) 1 ∗ comW c (gathered (PI I) c) ∗ done c 0 ∗ leaf0 c (PI I) ∗ insc c (I c) ∗ held stageM c c fullShare (PI I c) ∗ atPos ER (barCell c) 1 ∅ 0)))) (by
    iintro ⟨P, S, W1, CF, C, D, LF, X, Y, AB⟩
    ihave W3 := (wait0_of c 3) $$ CF
    iframe) ?_
  refine step_bind c (part20 (PI I) K c ?_)
  beta_reduce
  iterate 7 refine step_wait (PI I) K 3 0 (fun _ => mayWait_nothing _ _) (by decide) (guard _ _) rfl laid3 (fun _ => credit_out _ _) ?_
  exact step_pure c (gather_end K I c)

end Cert.Fused
-- ==== Proof.Ghost.lean ====
/-
What the launch deals: the exchange's cells and tokens, who holds which, and the credit for what the peers owe.
-/
module

public import proofs.«01_k».proof.Proof.Body
public import Idealize.ShloMosaic.Lib.Pipeline.Value

@[expose] public section

set_option maxRecDepth 65536
set_option maxHeartbeats 400000

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (PA : Dev nD → Arr F)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Over a device's cells: the barrier's, then the banks'. -/
theorem bigSep_cells (Φ : CI → sProp 𝕄) : bigSep Finset.univ Φ = iprop(Φ none ∗ bigSep Finset.univ fun k : Fin 4 => bigSep Finset.univ fun d : Dev nD => Φ (some (k, d))) := by
  rw [bigSep_erase (Finset.mem_univ (none : CI)), ← bigSep_univ_prod fun p : Fin 4 × Dev nD => Φ (some p)]
  refine congrArg (fun X => iprop(Φ none ∗ X)) ?_
  have e : (Finset.univ.erase none : Finset CI) = Finset.univ.map Function.Embedding.some := by
    ext x; cases x <;> simp
  rw [e, bigSep_map]
  rfl

/-! ## The semaphores -/

/-- The kernel's own semaphores. -/
abbrev osem : Fin 4 × Dev nD → SemLoc sig := fun p => .dma (dsem p.1 p.2)

theorem stage_bank : ∀ (w : Fin 6) (s : Fin (spec0 w).nbuf), bank ((spec0 w).sem s) = 0 := by decide

theorem ownSemFacts : Pipeline.OwnSemFacts cfg0.spec osem where
  isScoped p := by
    obtain ⟨k, d⟩ := p
    revert k d; decide
  inj p p' h := by
    obtain ⟨h1, h2⟩ := dsem_inj (SemLoc.dma.inj h)
    exact Prod.ext h1 h2
  disj p w s h := by
    have h1 := congrArg bank (SemLoc.dma.inj h)
    rw [bank_dsem] at h1
    exact absurd (h1.trans (stage_bank w s)) (by omega)

theorem ownSems_eq (c : Dev nD) : (Pipeline.ownSems0 (Ix := Unit) (Name := ℕ) (U := UU) (Lvl := ℕ) (Val := Elt F) (τ := τ) osem c : sProp 𝕄)
    = bigSep Finset.univ fun k : Fin 4 => bigSep Finset.univ fun d : Dev nD => semVal (dcell c k d) 0 := by
  unfold Pipeline.ownSems0
  rw [bigSep_univ_prod]

theorem unscoped_eq (c : Dev nD) : (unscopedSems0 c : sProp 𝕄) = semVal (barCell c) 0 := by
  unfold unscopedSems0
  rw [bigSep_eq_bigSepL_of_eq [SemLoc.reg barS] (by decide) (by decide)]
  rfl

/-! ## Cells and tokens -/

def cellSet : Finset (GSem nD τ sig) := Finset.univ.map ⟨kcell, kcell_inj⟩

/-- A device's token for peer `d`: of the barrier cell, or of the transfer cell of a bank for `d`. -/
abbrev tokOf (p : Dev nD × Dev nD × Option (Fin 4)) : GSem nD τ sig × ℕ × Dev nD := (kcell (p.1, p.2.2.map fun k => (k, p.2.1)), 0, p.2.1)

theorem tokOf_inj : Function.Injective tokOf := by
  rintro ⟨c, d, j⟩ ⟨c', d', j'⟩ h
  have h1 := kcell_inj (congrArg Prod.fst h)
  have h2 : d = d' := congrArg (fun x : GSem nD τ sig × ℕ × Dev nD => x.2.2) h
  subst h2
  obtain ⟨h3, h4⟩ := Prod.mk.inj h1
  have h5 : j = j' := by
    cases j <;> cases j' <;> simp_all
  dsimp only at h3
  rw [h3, h5]

def tokSet : Finset (GSem nD τ sig × ℕ × Dev nD) := Finset.univ.map ⟨tokOf, tokOf_inj⟩

def u₀ : UU := (initOf (Pipeline.cells cfgs cellOf_inj) (Pipeline.launchToks cfgs cellOf_inj), initOf cellSet tokSet)

/-- The tokens of device `c`'s cells that are peer `d`'s business. -/
def tok (c d : Dev nD) : sProp 𝕄 :=
  iprop(dutyTok ER (barCell c) 0 d ∗ dutyTok ER (dcell c 0 d) 0 d ∗ dutyTok ER (dcell c 1 d) 0 d ∗ dutyTok ER (dcell c 2 d) 0 d ∗ dutyTok ER (dcell c 3 d) 0 d)

/-- The tokens device `c` pays peer `d`'s exchange with. -/
def pay (c d : Dev nD) : sProp 𝕄 :=
  iprop(dutyTok ER (barCell d) 0 c ∗ (dutyTok ER (dcell c 1 d) 0 d ∗ dutyTok ER (dcell d 0 c) 0 c) ∗ (dutyTok ER (dcell c 3 d) 0 d ∗ dutyTok ER (dcell d 2 c) 0 c))

theorem bigSep_five (Φ : Option (Fin 4) → sProp 𝕄) : bigSep Finset.univ Φ = iprop(Φ none ∗ Φ (some 0) ∗ Φ (some 1) ∗ Φ (some 2) ∗ Φ (some 3)) :=
  bigSep_univ_eq_bigSepL [none, some 0, some 1, some 2, some 3] (by decide) (by decide) Φ

theorem toks_eq : bigSep tokSet (fun x => (dutyTok ER x.1 x.2.1 x.2.2 : sProp 𝕄)) = bigSep Finset.univ fun c : Dev nD => bigSep Finset.univ fun d : Dev nD => tok c d := by
  unfold tokSet
  rw [bigSep_map, bigSep_univ_prod]
  refine bigSep_congr fun c _ => ?_
  rw [bigSep_univ_prod]
  refine bigSep_congr fun d _ => ?_
  rw [bigSep_five]
  rfl

/-- Each token goes to the device that pays with it. -/
theorem deal : (bigSep Finset.univ fun c : Dev nD => bigSep Finset.univ fun d : Dev nD => (tok c d : sProp 𝕄))
    ⊢ bigSep Finset.univ fun c : Dev nD => bigSep Finset.univ fun d : Dev nD => pay c d := by
  unfold tok pay
  simp only [bigSep_sep']
  rw [bigSep_univ_comm fun c d : Dev nD => (dutyTok ER (barCell c) 0 d : sProp 𝕄),
    bigSep_univ_comm fun c d : Dev nD => (dutyTok ER (dcell c 0 d) 0 d : sProp 𝕄),
    bigSep_univ_comm fun c d : Dev nD => (dutyTok ER (dcell c 2 d) 0 d : sProp 𝕄)]
  iintro ⟨HB, H0, H1, H2, H3⟩
  iframe

/-- What a device holds of the exchange's ghost state: its positions, and the tokens it pays with. -/
def lin (c : Dev nD) : sProp 𝕄 :=
  iprop((bigSep Finset.univ fun x : CI => atPos ER (kcell (c, x)) 0 ∅ 0) ∗ bigSep Finset.univ fun d : Dev nD => pay c d)

/-- Before the invariants are made, -/
def G (c : Dev nD) : sProp 𝕄 :=
  iprop((bigSep Finset.univ fun x : CI => roundState ER (sched PA) (kcell (c, x)) 0)
    ∗ (bigSep Finset.univ fun x : CI => atPos ER (kcell (c, x)) 0 ∅ 0) ∗ (bigSep Finset.univ fun x : CI => reached ER (kcell (c, x)) 0)
    ∗ bigSep Finset.univ fun d : Dev nD => tok c d)
/-- and after. -/
def G' (c : Dev nD) : sProp 𝕄 := iprop(∃ K, records PA K ∗ lin c)

theorem fund_cells : BI.own (ER (initOf cellSet tokSet)) ⊢ (|==> bigSep Finset.univ (G PA) : sProp 𝕄) := by
  have hX (Φ : GSem nD τ sig → sProp 𝕄) : bigSep cellSet Φ = bigSep Finset.univ fun c : Dev nD => bigSep Finset.univ fun x : CI => Φ (kcell (c, x)) := by
    unfold cellSet; rw [bigSep_map, bigSep_univ_prod]; rfl
  iintro HX
  imod (Rounds.fund ER (sched PA) cellSet tokSet) $$ HX with ⟨Hst, Hr, Hat, Htok⟩
  imodintro
  ihave Hst := (Entails.of_eq (hX fun g => roundState ER (sched PA) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  unfold G
  simp only [bigSep_sep']
  iframe

/-- A device's semaphores and round states make its invariants. -/
theorem alloc (c : Dev nD) :
    iprop(Pipeline.ownSems0 (Ix := Unit) (Name := ℕ) (U := UU) (Lvl := ℕ) (Val := Elt F) (τ := τ) osem c ∗ unscopedSems0 c ∗ G PA c)
      ⊢ |={Set.univ}=> iprop((bigSep Finset.univ fun x : CI => iprop(∃ κ : ℕ, cellInv ER (sched PA) κ (kcell (c, x))))
          ∗ (bigSep Finset.univ fun x : CI => atPos ER (kcell (c, x)) 0 ∅ 0) ∗ (bigSep Finset.univ fun x : CI => reached ER (kcell (c, x)) 0)
          ∗ bigSep Finset.univ fun d : Dev nD => tok c d) := by
  have hs : iprop((bigSep Finset.univ fun x : CI => semVal (kcell (c, x)) 0) ∗ bigSep Finset.univ fun x : CI => roundState ER (sched PA) (kcell (c, x)) 0)
      ⊢ (|={Set.univ}=> bigSep Finset.univ fun x : CI => iprop(∃ κ : ℕ, cellInv ER (sched PA) κ (kcell (c, x))) : sProp 𝕄) := by
    rw [← bigSep_sep']
    exact (bigSep_mono fun x _ => (Rounds.body_intro ER (sched PA) (kcell (c, x))).trans inv_alloc).trans (bigSep_fupd _ _)
  unfold G
  rw [ownSems_eq, unscoped_eq]
  iintro ⟨Hos, Hb, Hst, Hat, Hr, Htok⟩
  imod (hs) $$ [Hos Hb Hst] with Hinv
  · isplitr [Hst]
    · rw [bigSep_cells]
      isplitl [Hb]; · iexact Hb
      iexact Hos
    iexact Hst
  imodintro
  iframe

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CI => iprop(∃ κ : ℕ, cellInv ER (sched PA) κ (kcell (c, x))))
          ∗ (bigSep Finset.univ fun x : CI => atPos ER (kcell (c, x)) 0 ∅ 0) ∗ (bigSep Finset.univ fun x : CI => reached ER (kcell (c, x)) 0)
          ∗ bigSep Finset.univ fun d : Dev nD => tok c d) : sProp 𝕄)
      ⊢ bigSep Finset.univ (G' PA) := by
  rw [bigSep_sep', bigSep_sep', bigSep_sep', ← bigSep_univ_prod (fun p : Dev nD × CI => iprop(∃ κ : ℕ, cellInv ER (sched PA) κ (kcell p))),
    ← bigSep_univ_prod (fun p : Dev nD × CI => (reached ER (kcell p) 0 : sProp 𝕄))]
  iintro ⟨HI, Hat, #HR, Htok⟩
  ihave HK := (BI.bigSep_exists_pi Finset.univ (fun (p : Dev nD × CI) (κ : ℕ) => (cellInv ER (sched PA) κ (kcell p) : sProp 𝕄))) $$ HI
  icases HK with ⟨%K, #HI⟩
  ihave Hpay := (deal) $$ Htok
  iapply (with_persistent (R := records PA K) (Φ := lin) fun c _ => by
    unfold G'
    iintro H
    iexists K
    iexact H)
  isplitr
  · unfold records
    rw [bigSep_sep']
    isplitl; · iexact HI
    iexact HR
  · unfold lin
    rw [bigSep_sep']
    isplitl [Hat] <;> iassumption

/-- All devices' semaphores at once make all devices' starts. -/
theorem glob : (bigSep Finset.univ fun c => iprop(Pipeline.ownSems0 (Ix := Unit) (Name := ℕ) (U := UU) (Lvl := ℕ) (Val := Elt F) (τ := τ) osem c ∗ unscopedSems0 c ∗ G PA c) : sProp 𝕄)
    ⊢ |={Set.univ}=> bigSep Finset.univ (G' PA) :=
  ((bigSep_mono fun c _ => alloc PA c).trans (bigSep_fupd _ _)).trans (BI.fupd_mono (regroup PA))

/-! ## The credit for what is owed a device -/

theorem sum_tally {ι : Type} (s : Finset ι) (f : ι → GSem nD τ sig) (n : ℕ) (g : GSem nD τ sig) :
    (∑ x ∈ s, tallyAt (Ix := Unit) (f x) () n) g () = ∑ x ∈ s, if g = f x then n else 0 := by
  classical
  induction s using Finset.induction_on with
  | empty => rfl
  | insert a s ha ih =>
    rw [Finset.sum_insert ha, Finset.sum_insert ha, Pi.add_apply, Finsupp.add_apply, ih, tallyAt_apply]
    simp only [and_true]

theorem kcell_eq {c d : Dev nD} {x y : CI} : kcell (c, x) = kcell (d, y) ↔ c = d ∧ x = y :=
  ⟨fun h => Prod.mk.inj (kcell_inj h), fun ⟨h1, h2⟩ => by rw [h1, h2]⟩

/-- What device `d` owes a barrier cell; -/
theorem owed_bar (c d : Dev nD) : O₀ d (barCell c) () = if c ≠ d then 1 else 0 := by
  unfold O₀ oweT oweB
  rw [Pi.add_apply, Finsupp.add_apply, Pi.add_apply, Finsupp.add_apply, sum_tally, sum_tally, sum_tally, todo_zero]
  simp only [kcell_eq, reduceCtorEq, and_false, if_false, Finset.sum_const_zero, and_true, Nat.zero_add, Finset.sum_ite_eq, Finset.mem_erase, Finset.mem_univ]

/-- a transfer cell, in the share of one bank's landings, -/
theorem owed_one (j k : Fin 4) (c d e : Dev nD) (h : e ≠ c) : oweT j d 0 (dcell c k e) () = if k = j ∧ e = d then N else 0 := by
  unfold oweT
  rw [sum_tally, todo_zero]
  by_cases hd : k = j ∧ e = d
  · obtain ⟨rfl, rfl⟩ := hd
    rw [if_pos ⟨rfl, rfl⟩, Finset.sum_eq_single c (fun x _ hx => if_neg fun e' => hx (kcell_eq.mp e').1.symm)
      (fun hn => absurd (Finset.mem_erase.mpr ⟨h.symm, Finset.mem_univ _⟩) hn), if_pos rfl]
  · rw [if_neg hd]
    refine Finset.sum_eq_zero fun x _ => if_neg fun e' => hd ?_
    have e1 := Option.some.inj (kcell_eq.mp e').2
    exact ⟨(Prod.mk.inj e1).1, (Prod.mk.inj e1).2⟩

/-- and altogether. -/
theorem owed_land (k : Fin 4) (hk : k = 0 ∨ k = 2) (c d e : Dev nD) (h : e ≠ c) : O₀ d (dcell c k e) () = if e = d then N else 0 := by
  have hb : oweB d 0 (dcell c k e) () = 0 := by
    unfold oweB
    rw [sum_tally]
    exact Finset.sum_eq_zero fun x _ => if_neg fun e' => by cases (kcell_eq.mp e').2
  unfold O₀
  rw [Pi.add_apply, Finsupp.add_apply, Pi.add_apply, Finsupp.add_apply, owed_one _ _ _ _ _ h, owed_one _ _ _ _ _ h, hb]
  rcases hk with rfl | rfl <;> simp

theorem launch_bar (c : Dev nD) :
    tallyOn (barCell c) (launchCredit (Pipeline.owing O₀) 0 (barCell c)) = (tallyAt (barCell c) () 15 : CellTallies nD τ sig Unit) := by
  unfold tallyAt
  refine congrArg _ (Finsupp.ext fun u => ?_)
  cases u
  rw [Pipeline.launchCredit_owing, Finsupp.single_eq_same, Finset.sum_congr rfl fun d _ => owed_bar c d]
  revert c; decide

theorem launch_land (k : Fin 4) (hk : k = 0 ∨ k = 2) (c e : Dev nD) (h : e ≠ c) :
    tallyOn (dcell c k e) (launchCredit (Pipeline.owing O₀) 0 (dcell c k e)) = (tallyAt (dcell c k e) () N : CellTallies nD τ sig Unit) := by
  unfold tallyAt
  refine congrArg _ (Finsupp.ext fun u => ?_)
  cases u
  rw [Pipeline.launchCredit_owing, Finsupp.single_eq_same, Finset.sum_congr rfl fun d _ => owed_land k hk c d e h, Finset.sum_ite_eq, if_pos (Finset.mem_univ _)]

/-- The credit a device starts with. -/
def creds (c : Dev nD) : sProp 𝕄 :=
  iprop(cred (tallyAt (barCell c) () 15) ∗ (bigSep (Finset.univ.erase c) fun d => cred (tallyAt (dcell c 0 d) () N)) ∗ bigSep (Finset.univ.erase c) fun d => cred (tallyAt (dcell c 2 d) () N))

theorem keep {A B0 B1 B2 B3 C0 C2 : sProp 𝕄} (h0 : B0 ⊢ C0) (h2 : B2 ⊢ C2) : iprop(A ∗ B0 ∗ B1 ∗ B2 ∗ B3) ⊢ iprop(A ∗ C0 ∗ C2) := by
  iintro ⟨HA, H0, -, H2, -⟩
  isplitl [HA]; · iexact HA
  isplitl [H0]
  · iapply h0; iexact H0
  · iapply h2; iexact H2

theorem creds_intro (c : Dev nD) : (Pipeline.launchCred O₀ c : sProp 𝕄) ⊢ creds c := by
  have hl (k : Fin 4) (hk : k = 0 ∨ k = 2) :
      (bigSep Finset.univ fun d : Dev nD => (cred (tallyOn (dcell c k d) (launchCredit (Pipeline.owing O₀) 0 (dcell c k d))) : sProp 𝕄))
        ⊢ bigSep (Finset.univ.erase c) fun d => cred (tallyAt (dcell c k d) () N) :=
    (bigSep_subset (Finset.erase_subset c _)).trans (bigSep_mono fun d hd => Entails.of_eq (congrArg cred (launch_land k hk c d (Finset.ne_of_mem_erase hd))))
  unfold Pipeline.launchCred creds
  refine (bigSep_subset (t := Finset.univ.map ⟨csem, csem_inj⟩) (Finset.subset_univ _)).trans ?_
  rw [bigSep_map, bigSep_cells, bigSep_four, ← launch_bar]
  exact keep (hl 0 (Or.inl rfl)) (hl 2 (Or.inr rfl))

end Cert.Fused
-- ==== Proof.Run.lean ====
/-
The run of the whole mesh: the body between what the launch hands over and what it takes back, and the final memory.
-/
module

public import proofs.«01_k».proof.Proof.Ghost
public import proofs.«01_k».proof.Proof.Gen.KernelIdeal.Points
public import Idealize.ShloMosaic.Lib.Pipeline.Value

@[expose] public section

set_option maxRecDepth 65536
set_option maxHeartbeats 400000

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The device's staged inputs. -/
def ins (c : Dev nD) : Ins F where
  x := (win0_0.blk (0 : Fin 1)).view.read (Elt F) (m ((c : Thread nD τ).loc main_arg0))
  wq := (win0_1.blk (0 : Fin 1)).view.read (Elt F) (m ((c : Thread nD τ).loc main_arg1))
  wo := (win0_2.blk (0 : Fin 1)).view.read (Elt F) (m ((c : Thread nD τ).loc main_arg2))
  k := (win0_3.blk (0 : Fin 1)).view.read (Elt F) (m ((c : Thread nD τ).loc main_arg3))
  v := (win0_4.blk (0 : Fin 1)).view.read (Elt F) (m ((c : Thread nD τ).loc main_arg4))

/-- Every device's partial product, from the memory. -/
abbrev PM : Dev nD → Arr F := PI (ins m)

/-! ## Before and after the body -/

/-- The positions of the cells a device never uses. -/
def spare (c : Dev nD) : sProp 𝕄 := bigSep Finset.univ fun k : Fin 4 => atPos ER (dcell c k c) 0 ∅ 0

theorem atPos_split (c : Dev nD) : (bigSep Finset.univ fun x : CI => (atPos ER (kcell (c, x)) 0 ∅ 0 : sProp 𝕄))
    ⊢ iprop(atPos ER (barCell c) 0 ∅ 0 ∗ spare c ∗ fresh c 0 ∗ fresh c 1 ∗ fresh c 2 ∗ fresh c 3) := by
  have e (k : Fin 4) : (bigSep Finset.univ fun d : Dev nD => (atPos ER (dcell c k d) 0 ∅ 0 : sProp 𝕄)) = iprop(atPos ER (dcell c k c) 0 ∅ 0 ∗ fresh c k) :=
    bigSep_erase (Finset.mem_univ c)
  rw [bigSep_cells, bigSep_congr (s := Finset.univ) (fun k _ => e k), bigSep_sep', bigSep_four (fun k => (fresh c k : sProp 𝕄))]
  unfold spare
  iintro ⟨HB, Hs, Hf⟩
  iframe

theorem pay_split (c : Dev nD) : (bigSep Finset.univ fun d : Dev nD => (pay c d : sProp 𝕄))
    ⊢ iprop((bigSep (Finset.univ.erase c) fun d => dutyTok ER (barCell d) 0 c) ∗ toks1 c ∗ toks3 c) := by
  exact BIBase.Entails.trans (bigSep_subset (Finset.erase_subset c _)) (Entails.of_eq (by unfold pay toks1 toks3; rw [bigSep_sep', bigSep_sep']))

theorem any_of {α : Type} (Φ : α → sProp 𝕄) (a : α) : Φ a ⊢ iprop(∃ x, Φ x) := by
  iintro H
  iexists a
  iexact H

theorem some_held (M : Memref sig .tc .vmem S512x768 .bf16) (c : Dev nD) (f : Arr F) (hM : Buf (Elt F) (M.view.loc (c : Thread nD τ))) :
    (bigSep (Finset.univ.erase c) fun d => held M c d fullShare hM) ⊢ (bigSep (Finset.univ.erase c) fun d => iprop(∃ g, held (F := F) M c d fullShare g) : sProp 𝕄) :=
  bigSep_mono fun d _ => any_of (fun g => held M c d fullShare g) hM

/-- What the launch hands a device, and its buffers, are what its body starts from. -/
theorem setup (K : Dev nD × CI → ℕ) (I : Dev nD → Ins F) (c : Dev nD) (f g h : Arr F) :
    iprop((records (PI I) K ∗ lin c) ∗ creds c ∗ levAts L lv ∗ (∃ W, owes (c : Thread nD τ) (O₀ c) W) ∗ insc c (I c) ∗ stg c f ∗ comW c g ∗ outW c h)
      ⊢ iprop(bodyStart K I c f g h ∗ spare c) := by
  unfold lin creds bodyStart comW outW sigSt phase sigΦ pers bar0
  rw [whole_chunks, whole_chunks, bigSep_erase (Finset.mem_univ c) (Φ := fun d => held commM c d fullShare g),
    bigSep_erase (Finset.mem_univ c) (Φ := fun d => held outM c d fullShare h), todo_zero, did_zero, bigSep_empty, bigSep_sep', bigSep_sep']
  show iprop((_ ∗ _) ∗ _ ∗ _ ∗ _ ∗ _ ∗ _ ∗ (held commM c c fullShare g ∗ bigSep (Finset.univ.erase c) fun d => held commM c d fullShare g)
    ∗ (held outM c c fullShare h ∗ bigSep (Finset.univ.erase c) fun d => held outM c d fullShare h)) ⊢ _
  iintro ⟨⟨Hrec, Hat, Hpay⟩, ⟨HcB, Hc0, Hc2⟩, Hlev, Ho, Hi, Hs, ⟨Hg, Hgs⟩, Hh, Hhs⟩
  ihave ⟨HaB, Hsp, Ha0, Ha1, Ha2, Ha3⟩ := (atPos_split c) $$ Hat
  ihave ⟨HtB, Ht1, Ht3⟩ := (pay_split c) $$ Hpay
  ihave Hgs := (some_held commM c g g) $$ Hgs
  ihave Hhs := (some_held outM c h h) $$ Hhs
  ihave Hw0 := (wait0_of c 0) $$ [Hc0 Ha0]
  · isplitl [Hc0]; · iexact Hc0
    iexact Ha0
  ihave Hw2 := (wait0_of c 2) $$ [Hc2 Ha2]
  · isplitl [Hc2]; · iexact Hc2
    iexact Ha2
  iframe
  isplitl [Ho]
  · iexact Ho
  iempintro

/-- The cells closed. -/
theorem close (PA : Dev nD → Arr F) (K : Dev nD × CI → ℕ) (c : Dev nD) :
    iprop(records PA K ∗ atPos ER (barCell c) 1 ∅ 0 ∗ spare c ∗ done c 0 ∗ done c 1 ∗ done c 2 ∗ done c 3)
      ⊢ |={Set.univ}=> iprop(semVal (barCell c) 0 ∗ bigSep Finset.univ fun k : Fin 4 => bigSep Finset.univ fun d : Dev nD => semVal (dcell c k d) 0) := by
  have h1 (p : CI) (R : ℕ) (hR : ∀ r, R ≤ r → (sched PA).duties (kcell (c, p)) r = ∅) :
      iprop(records PA K ∗ atPos ER (kcell (c, p)) R ∅ 0) ⊢ (|={Set.univ}=> semVal (kcell (c, p)) 0 : sProp 𝕄) := by
    iintro ⟨#Hrec, Hat⟩
    ihave Hi := (records_at PA K (c, p)) $$ Hrec
    icases Hi with ⟨#Hinv, -⟩
    iapply (Rounds.cell_close ER (sched PA) (Set.mem_univ (K (c, p))) (fun h => h) (R := R) hR)
    isplitr; · iexact Hinv
    iexact Hat
  have h2 (k : Fin 4) : iprop(records PA K ∗ atPos ER (dcell c k c) 0 ∅ 0 ∗ done c k)
      ⊢ (|={Set.univ}=> bigSep Finset.univ fun d : Dev nD => semVal (dcell c k d) 0 : sProp 𝕄) := by
    have h3 : iprop(records PA K ∗ done c k) ⊢ (|={Set.univ}=> bigSep (Finset.univ.erase c) fun d : Dev nD => semVal (dcell c k d) 0 : sProp 𝕄) := by
      unfold done
      exact (with_persistent fun d _ => h1 (some (k, d)) 1 (duties_later PA _)).trans (bigSep_fupd _ _)
    rw [bigSep_erase (Finset.mem_univ c) (Φ := fun d : Dev nD => semVal (dcell c k d) 0)]
    show _ ⊢ iprop(|={Set.univ}=> (semVal (dcell c k c) 0 ∗ bigSep (Finset.univ.erase c) fun d : Dev nD => semVal (dcell c k d) 0))
    iintro ⟨#Hrec, Ha, Hd⟩
    imod (h1 (some (k, c)) 0 (duties_own_all PA c k)) $$ [Ha] with Ha
    · isplitr; · iexact Hrec
      iexact Ha
    imod (h3) $$ [Hd] with Hd
    · isplitr; · iexact Hrec
      iexact Hd
    imodintro
    isplitl [Ha] <;> iassumption
  unfold spare
  rw [bigSep_four, bigSep_four]
  iintro ⟨#Hrec, HB, ⟨Hs0, Hs1, Hs2, Hs3⟩, Hd0, Hd1, Hd2, Hd3⟩
  imod (h1 none 1 (duties_later PA _)) $$ [HB] with HB
  · isplitr; · iexact Hrec
    iexact HB
  imod (h2 0) $$ [Hs0 Hd0] with H0
  · isplitr; · iexact Hrec
    isplitl [Hs0] <;> iassumption
  imod (h2 1) $$ [Hs1 Hd1] with H1
  · isplitr; · iexact Hrec
    isplitl [Hs1] <;> iassumption
  imod (h2 2) $$ [Hs2 Hd2] with H2
  · isplitr; · iexact Hrec
    isplitl [Hs2] <;> iassumption
  imod (h2 3) $$ [Hs3 Hd3] with H3
  · isplitr; · iexact Hrec
    isplitl [Hs3] <;> iassumption
  imodintro
  iframe

end Cert.Fused
-- ==== Proof.Mesh.lean ====
/-
The launch: the pipeline's data around the body, and the run of @main on the mesh.
-/
module

public import proofs.«01_k».proof.Proof.Run
public import proofs.«01_k».proof.Proof.Gen.KernelIdeal.Frame
public import Idealize.ShloMosaic.Lib.Pipeline.CollectiveSegs
public import Idealize.ShloMosaic.Lib.Pipeline.Value

@[expose] public section

set_option maxRecDepth 65536
set_option maxHeartbeats 1000000

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Cert.KernelIdeal.Gen (fin_N0 bigSep_W0 fetch0_0 fetch0_1 fetch0_2 fetch0_3 fetch0_4 t0_0 N_0 winFacts0 arr_whole0 stage_whole0 block_pos0 scopedRest0_eq cellOf_inj)

variable (m : (ℓ : Loc nD τ sig) → Buf (Elt F) ℓ) (ρ : Dev nD → PrngReg)

/-! ## The pipeline's data -/

/-- What the launch hands a device besides its buffers. -/
def start (c : Dev nD) : sProp 𝕄 := iprop(G' (PM m) c ∗ creds c ∗ levAts L lv)

/-- Before the point. -/
def Φ₀ (c : Dev nD) : sProp 𝕄 := iprop(start m c ∗ (∃ f, stg c f) ∗ ∃ g, comW (F := F) c g)

/-- After it. -/
def Φ₁ (c : Dev nD) : sProp 𝕄 :=
  iprop((stg c (PM m c) ∗ comW c (gathered (PM m) c)) ∗ semVal (barCell c) 0
    ∗ bigSep Finset.univ fun k : Fin 4 => bigSep Finset.univ fun d : Dev nD => semVal (dcell c k d) 0)

def dats (_ : Fin 1) (c : Dev nD) : Dat τ (Elt F) Unit ℕ UU ℕ cfg0 c where
  A w := m ((cfg0.win w).arr.view.loc (c : Thread nD τ))
  after w _ := match w with
    | ⟨0, _⟩ => (ins m c).x
    | ⟨1, _⟩ => (ins m c).wq
    | ⟨2, _⟩ => (ins m c).wo
    | ⟨3, _⟩ => (ins m c).k
    | ⟨4, _⟩ => (ins m c).v
    | ⟨5, _⟩ => result (PM m)
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body obligation -/

/-- A staging buffer holding `X`. -/
abbrev sbuf (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPost (c : Dev nD) : sProp 𝕄 :=
  iprop(Φ₁ m c ∗ (dats m 0 c).owesAt () t0_0.succ ∗ sbuf c cc0_stg0_0 (ins m c).x ∗ sbuf c cc0_stg1_0 (ins m c).wq ∗ sbuf c cc0_stg2_0 (ins m c).wo
    ∗ sbuf c cc0_stg3_0 (ins m c).k ∗ sbuf c cc0_stg4_0 (ins m c).v ∗ sbuf c cc0_stg5_0 (result (PM m)))

def bodyPre (c : Dev nD) : sProp 𝕄 :=
  iprop(Φ₀ m c ∗ (dats m 0 c).owesAt () t0_0.castSucc
    ∗ (∃ d, sbuf c cc0_stg0_0 ((dats m 0 c).before (0 : Fin 6) t0_0 d)) ∗ (∃ d, sbuf c cc0_stg1_0 ((dats m 0 c).before (1 : Fin 6) t0_0 d))
    ∗ (∃ d, sbuf c cc0_stg2_0 ((dats m 0 c).before (2 : Fin 6) t0_0 d)) ∗ (∃ d, sbuf c cc0_stg3_0 ((dats m 0 c).before (3 : Fin 6) t0_0 d))
    ∗ (∃ d, sbuf c cc0_stg4_0 ((dats m 0 c).before (4 : Fin 6) t0_0 d)) ∗ (∃ d, sbuf c cc0_stg5_0 ((dats m 0 c).before (5 : Fin 6) t0_0 d)))

theorem before_x (c : Dev nD) (d) : (dats m 0 c).before (0 : Fin 6) t0_0 d = (ins m c).x := by unfold Dat.before; rw [if_pos (fetch0_0 t0_0)]; rfl
theorem before_wq (c : Dev nD) (d) : (dats m 0 c).before (1 : Fin 6) t0_0 d = (ins m c).wq := by unfold Dat.before; rw [if_pos (fetch0_1 t0_0)]; rfl
theorem before_wo (c : Dev nD) (d) : (dats m 0 c).before (2 : Fin 6) t0_0 d = (ins m c).wo := by unfold Dat.before; rw [if_pos (fetch0_2 t0_0)]; rfl
theorem before_k (c : Dev nD) (d) : (dats m 0 c).before (3 : Fin 6) t0_0 d = (ins m c).k := by unfold Dat.before; rw [if_pos (fetch0_3 t0_0)]; rfl
theorem before_v (c : Dev nD) (d) : (dats m 0 c).before (4 : Fin 6) t0_0 d = (ins m c).v := by unfold Dat.before; rw [if_pos (fetch0_4 t0_0)]; rfl

theorem insc_of (c : Dev nD) :
    iprop((∃ d, sbuf c cc0_stg0_0 ((dats m 0 c).before (0 : Fin 6) t0_0 d)) ∗ (∃ d, sbuf c cc0_stg1_0 ((dats m 0 c).before (1 : Fin 6) t0_0 d))
    ∗ (∃ d, sbuf c cc0_stg2_0 ((dats m 0 c).before (2 : Fin 6) t0_0 d)) ∗ (∃ d, sbuf c cc0_stg3_0 ((dats m 0 c).before (3 : Fin 6) t0_0 d))
    ∗ (∃ d, sbuf c cc0_stg4_0 ((dats m 0 c).before (4 : Fin 6) t0_0 d))) ⊢ insc c (ins m c) := by
  iintro ⟨⟨%d0, %f0, %e0, H0⟩, ⟨%d1, %f1, %e1, H1⟩, ⟨%d2, %f2, %e2, H2⟩, ⟨%d3, %f3, %e3, H3⟩, ⟨%d4, %f4, %e4, H4⟩⟩
  rw [before_x] at e0
  rw [before_wq] at e1
  rw [before_wo] at e2
  rw [before_k] at e3
  rw [before_v] at e4
  subst e0 e1 e2 e3 e4
  unfold insc
  isplitl [H0]; · iexact H0
  isplitl [H1]; · iexact H1
  isplitl [H2]; · iexact H2
  isplitl [H3]; · iexact H3
  iexact H4

theorem sbuf_of (c : Dev nD) (b : Ref sig .tc) (X : b.ty.Contents (Elt F)) : (((c : Thread nD τ).loc b) ↦{fullShare} X) ⊢ (sbuf c b X : sProp 𝕄) := by
  iintro H
  iexists X
  isplitr; · (ipureintro; rfl)
  iexact H

theorem of_insc (c : Dev nD) : insc c (ins m c) ⊢ iprop(sbuf c cc0_stg0_0 (ins m c).x ∗ sbuf c cc0_stg1_0 (ins m c).wq ∗ sbuf c cc0_stg2_0 (ins m c).wo
    ∗ sbuf c cc0_stg3_0 (ins m c).k ∗ sbuf c cc0_stg4_0 (ins m c).v) := by
  unfold insc
  iintro ⟨H0, H1, H2, H3, H4⟩
  isplitl [H0]; · iapply (sbuf_of c cc0_stg0_0); iexact H0
  isplitl [H1]; · iapply (sbuf_of c cc0_stg1_0); iexact H1
  isplitl [H2]; · iapply (sbuf_of c cc0_stg2_0); iexact H2
  isplitl [H3]; · iapply (sbuf_of c cc0_stg3_0); iexact H3
  iapply (sbuf_of c cc0_stg4_0); iexact H4

theorem outW_eq (c : Dev nD) (f : Arr F) : outW c f = (((c : Thread nD τ).loc cc0_stg5_0) ↦{fullShare} f : sProp 𝕄) := by
  unfold outW; simp only [Memref.view_whole, View.set_whole]

theorem comW_eq (c : Dev nD) (f : Arr F) : comW c f = (((c : Thread nD τ).loc cc0_scratch1) ↦{fullShare} f : sProp 𝕄) := by
  unfold comW; simp only [Memref.view_whole, View.set_whole]

theorem stg_eq (c : Dev nD) (f : Arr F) : stg c f = (((c : Thread nD τ).loc cc0_scratch0) ↦{fullShare} f : sProp 𝕄) := by
  unfold stg; simp only [Memref.view_whole, View.set_whole]

/-- The device's entry and exit around the run of its body. -/
theorem around (c : Dev nD) : bodyPre m c ⊢ kwp c (cc0_body (F := F) xM (Memref.isWhole_whole _) wqM (Memref.isWhole_whole _) woM (Memref.isWhole_whole _) kM (Memref.isWhole_whole _) vM (Memref.isWhole_whole _) outM (Memref.isWhole_whole _) stageM (Memref.isWhole_whole _) commM (Memref.isWhole_whole _) cc0_scratch2 cc0_scratch3 cc0_scratch4 cc0_scratch5) fun _ => bodyPost m c := by
  unfold bodyPre Φ₀ start G' Dat.owesAt Pipeline.owesWithin
  rw [show (dats m 0 c).owed t0_0.castSucc = O₀ c from rfl]
  iintro ⟨⟨⟨⟨%K, HG⟩, Hcr, Hlev⟩, ⟨%f, Hf⟩, ⟨%g, Hg⟩⟩, ⟨%W, %hW, Ho⟩, H0, H1, H2, H3, H4, ⟨%d5, %h, %e5, H5⟩⟩
  ihave Hin := (insc_of m c) $$ [H0 H1 H2 H3 H4]
  · isplitl [H0]; · iexact H0
    isplitl [H1]; · iexact H1
    isplitl [H2]; · iexact H2
    isplitl [H3]; · iexact H3
    iexact H4
  ihave HS := (setup K (ins m) c f g h) $$ [HG Hcr Hlev Ho Hin Hf Hg H5]
  · isplitl [HG]; · iexact HG
    isplitl [Hcr]; · iexact Hcr
    isplitl [Hlev]; · iexact Hlev
    isplitl [Ho]; · (iexists W; iexact Ho)
    isplitl [Hin]; · iexact Hin
    isplitl [Hf]; · iexact Hf
    isplitl [Hg]; · iexact Hg
    rw [outW_eq]; iexact H5
  icases HS with ⟨HB, Hsp⟩
  iapply (wp_fupd frame _ _ _ _)
  iapply (wp_wand_r frame _ _)
  isplitl [HB]
  · iapply (body_run K (ins m) c f g h); iexact HB
  iintro %u HE
  unfold bodyEnd pers
  icases HE with ⟨⟨Hrec, Hlev⟩, Hid, Hin, Hst, Hco, Hou, HaB, Hd0, Hd1, Hd2, Hd3⟩
  imod (close (PM m) K c) $$ [Hrec HaB Hsp Hd0 Hd1 Hd2 Hd3] with HZ
  · iframe
  imodintro
  ihave Hin := (of_insc m c) $$ Hin
  icases Hin with ⟨H0, H1, H2, H3, H4⟩
  unfold bodyPost Φ₁ Dat.owesAt Pipeline.owesWithin
  rw [show (dats m 0 c).owed t0_0.succ = 0 from rfl]
  isplitl [Hst Hco HZ]
  · isplitl [Hst Hco]
    · isplitl [Hst] <;> iassumption
    iexact HZ
  isplitl [Hid]
  · unfold idle
    icases Hid with ⟨%W', HO⟩
    iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iapply (sbuf_of c cc0_stg5_0)
  rw [← outW_eq]
  iexact Hou

theorem body_obligation (c : Dev nD) : BodyObligation (dats m 0 c) (defs₀ (F := F)) 𝒱₀ () Set.univ := fun t => by
  rw [fin_N0 t]
  rw [bigSep_W0, bigSep_W0]
  simp only [owns_whole_eq]
  exact around m c

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (PM m) c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hf⟩, ⟨%g, Hg⟩⟩
  isplitl [Hs]; · iexact Hs
  isplitl [Hf]
  · iexists f; rw [stg_eq]; iexact Hf
  · iexists g; rw [comW_eq]; iexact Hg

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems_eq, unscoped_eq]
  unfold Φ₁
  rw [stg_eq, comW_eq]
  iintro ⟨⟨Hf, Hg⟩, HB, HD⟩
  isplitl [HB]; · iexact HB
  isplitl [HD]; · iexact HD
  isplitl [Hf]
  · iexists (PM m c); iexact Hf
  · iexists (gathered (PM m) c); iexact Hg

theorem waits (c : Dev nD) : (levAts L lv : sProp 𝕄) ⊢ Pipeline.cellsWaits cfgs (dats m) () 0 c :=
  Pipeline.cellsWaits_intro cfgs (dats m) () 0 c fun w s t =>
    mayWait_stage c _ (stage_bank w s) _ (by
      rcases t with ⟨_ | _, ht⟩
      · exact Or.inl rfl
      · exact Or.inr rfl)

/-! ## The run -/

/-- The final contents of a window's array. -/
def finalA (c : Dev nD) (w : Fin cfg0.W) : Buf (Elt F) ((cfg0.win w).arr.view.loc (c : Thread nD τ)) := (dats m 0 c).arrAt w cfg0.N

/-- Every window's array at its final contents. -/
def QC : PUnit × MemSt nD τ sig (Elt F) → Prop := fun r =>
  ∀ c : Dev nD, ∀ w : Fin cfg0.W, r.2.mem ((cfg0.win w).arr.view.loc (c : Thread nD τ)) = finalA m c w

/-- On the mesh of sixteen devices, over any float values, from any memory with zero counters: every weakly fair
    execution of @main terminates, each device's arrays at their final contents and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (PM m)) (G' := G' (PM m)) (u₀ := u₀)
    (hu₀ := by
      unfold u₀
      iintro Hu
      ihave H := (ownU_pair _ _) $$ Hu
      icases H with ⟨HP, HX⟩
      imod (fund_cells (PM m)) $$ HX with HG
      imodintro
      isplitl [HP] <;> iassumption)
    (hglob := glob (PM m))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Fused
-- ==== Proof.Frames.lean ====
/-
The final memory of the mesh read at the arguments and the result; the kernel's two frames.
-/
module

public import proofs.«01_k».proof.Proof.Mesh
public import proofs.«01_k».proof.Defs
public import proofs.«01_k».proof.Proof.Gen.Kernel
public import Idealize.ShloMosaic.Lib.Pipeline.Value

@[expose] public section

set_option maxRecDepth 65536
set_option maxHeartbeats 400000

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result array: every device's is the whole result. -/
theorem finalA_out (c : Dev nD) : (win0_5.blk (0 : Fin 1)).view.read (Elt F) (finalA m c (5 : Fin 6)) = result (PM m) := by
  unfold finalA
  rw [show cfg0.N = ((0 : Fin 1) : Fin cfg0.N).val + 1 from rfl, (dats m 0 c).arrAt_succ (5 : Fin 6) (0 : Fin 1)]
  rw [show (cfg0.win (5 : Fin 6)).flush (0 : Fin 1) = true from by decide, if_pos rfl]
  exact View.read_write_univ _ _

/-- The mesh's final memory: the arguments as launched, the result everywhere, every semaphore at zero. -/
theorem run_final : θ_run defs (onTc (τ := τ) (main (F := F))) ⟨m, fun _ => 0, ρ⟩ (fun r => (∀ c : Dev nD,
      (win0_5.blk (0 : Fin 1)).view.read (Elt F) (r.2.mem ((c.tc : Thread nD τ).loc main_v1)) = result (PM m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(congrArg ((win0_5.blk (0 : Fin 1)).view.read (Elt F)) (h.1 c (5 : Fin 6))).trans (finalA_out m c),
        (h.1 c (0 : Fin 6)).trans ((dats m 0 c).arrAt_in (0 : Fin 6) rfl _), (h.1 c (1 : Fin 6)).trans ((dats m 0 c).arrAt_in (1 : Fin 6) rfl _),
        (h.1 c (2 : Fin 6)).trans ((dats m 0 c).arrAt_in (2 : Fin 6) rfl _), (h.1 c (3 : Fin 6)).trans ((dats m 0 c).arrAt_in (3 : Fin 6) rfl _),
        (h.1 c (4 : Fin 6)).trans ((dats m 0 c).arrAt_in (4 : Fin 6) rfl _)⟩, h.2⟩) (run_main m ρ)

/-- The frame, over any float values. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_final m ρ)

theorem frame_kernelIdeal : Cert.quiescent_KernelIdeal := fun m ρ _ => run_frame (F := Ideal) m ρ

/-- The printed program and the one read at the ideal instance have the same bodies. -/
theorem bodies_same : Cert.Kernel.defs₀ (F := Bits) = Cert.KernelIdeal.defs₀ (F := Bits) := by
  unfold Cert.Kernel.defs₀ Cert.KernelIdeal.defs₀
  refine congrArg Defs.onTc ?_
  funext l a
  obtain ⟨i, hi⟩ := l
  cases i with
  | zero =>
    obtain ⟨t, s⟩ := a
    rfl
  | succ n => exact absurd hi (Nat.not_lt.2 (Nat.le_add_left _ _))

theorem tables_same : Cert.Kernel.defs (F := Bits) = Cert.KernelIdeal.defs (F := Bits) :=
  congrArg (Pipeline.defs pcfgs) bodies_same

theorem frame_kernel : Cert.quiescent_Kernel := fun m ρ _ => by
  rw [tables_same]
  exact run_frame (F := Bits) m ρ

end Cert.Fused
-- ==== Proof.Attend.lean ====
/-
The arithmetic on extended reals that both programs' results come down to: one query's attention over its 512 keys, where
the scale of the scores may stand, and the sum over 8192 columns cut into the sixteen devices' 512.
-/
module

public import Idealize.ShloMosaic.Lib.Pointwise

@[expose] public section

noncomputable section

namespace Cert.Fused

open Idealize.ShloMosaic

/-- Where the running maximum of a row starts, -/
abbrev lowest : EReal := Ideal.ofBits FTy.f32 0xFF800000#32
/-- and the scale of the scores, an eighth. -/
abbrev eighth : EReal := Ideal.ofBits FTy.f32 0x3E000000#32

/-- The exponential of score `t`, the row's maximum taken off, -/
def soft (s : Fin 512 → EReal) (t : Fin 512) : EReal := Ideal.exp (s t - Finset.univ.fold max lowest fun u => s u)

/-- and the values weighted by them, over their sum. -/
def attend (s v : Fin 512 → EReal) : EReal := Ideal.div (∑ t, soft s t * v t) (∑ t, soft s t)

theorem eighth_val : eighth = (((1 : ℝ) / 8 : ℝ) : EReal) := by
  simp [Ideal.ofBits, Ideal.ieee, -EReal.coe_mul]
  norm_num

theorem eighth_nonneg : 0 ≤ eighth := by
  rw [eighth_val]
  exact EReal.coe_nonneg.mpr (by norm_num)

theorem eighth_ne_top : eighth ≠ ⊤ := by
  rw [eighth_val]
  exact EReal.coe_ne_top _

/-- The scale distributes over any finite sum, infinities included: it is positive and finite. -/
theorem sum_scaled {ι : Type} (A : Finset ι) (f : ι → EReal) : (∑ d ∈ A, f d) * eighth = ∑ d ∈ A, f d * eighth := by
  classical
  induction A using Finset.induction_on with
  | empty => simp
  | insert a A ha ih =>
    rw [Finset.sum_insert ha, Finset.sum_insert ha, ← ih]
    exact EReal.right_distrib_of_nonneg_of_ne_top eighth_nonneg eighth_ne_top _ _

/-- Queries scaled before the product with the keys, or the product scaled after. -/
theorem score_scaled (q k : Fin 64 → EReal) : ∑ d, q d * eighth * k d = (∑ d, q d * k d) * eighth := by
  rw [sum_scaled]
  exact Finset.sum_congr rfl fun d _ => mul_right_comm _ _ _

/-- Column `j` of device `c`, among all the columns. -/
abbrev colOf (c : Fin 16) (j : Fin 512) : Fin 8192 := ⟨512 * c.val + j.val, by omega⟩

/-- The sum over all columns, device by device. -/
theorem sum_columns (f : Fin 8192 → EReal) : ∑ J, f J = ∑ c : Fin 16, ∑ j : Fin 512, f (colOf c j) := by
  rw [← Fintype.sum_prod_type' fun (c : Fin 16) (j : Fin 512) => f (colOf c j)]
  refine ((Equiv.sum_comp (finProdFinEquiv (m := 16) (n := 512)) f).symm).trans (Finset.sum_congr rfl fun x _ => congrArg f (Fin.ext ?_))
  show x.2.val + 512 * x.1.val = 512 * x.1.val + x.2.val
  omega

end Cert.Fused
-- ==== Proof.KernelValue.lean ====
/-
The kernel's result read at an index over the extended reals: a sum over the devices, of sums over a device's columns, of
one query's attention times an output weight.
-/
module

public import proofs.«01_k».proof.Proof.Attn
public import proofs.«01_k».proof.Proof.Attend

@[expose] public section

set_option maxRecDepth 65536
set_option maxHeartbeats 400000

noncomputable section

namespace Cert.Fused

open Cert.KernelIdeal Cert.KernelIdeal.Gen

open Idealize.ShloMosaic

variable (I : Ins Ideal)

/-- The activations of batch `b`, -/
theorem xAt_at (b : Fin 2) (i : Fin 256) (e : Fin 768) : xAt I b (ix3 0 i e) = I.x (ix3 b i e) := by
  refine congrArg I.x (funext fun a => ?_)
  fin_cases a
  · exact Fin.ext (show b.val + 1 * 0 = b.val by omega)
  · exact Fin.ext (show 0 + 1 * i.val = i.val by omega)
  · exact Fin.ext (show 0 + 1 * e.val = e.val by omega)

/-- the keys or values of a group, -/
theorem kvAt_at (f : S2x512x2x64.Idx → Elt Ideal .bf16) (b g : Fin 2) (t : Fin 512) (d : Fin 64) : kvAt f b g (ix4 0 t 0 d) = f (ix4 b t g d) := by
  refine congrArg f (funext fun a => ?_)
  fin_cases a
  · exact Fin.ext (show b.val + 1 * 0 = b.val by omega)
  · exact Fin.ext (show 0 + 1 * t.val = t.val by omega)
  · exact Fin.ext (show g.val + 1 * 0 = g.val by omega)
  · exact Fin.ext (show 0 + 1 * d.val = d.val by omega)

/-- and the scaled queries. -/
theorem queries_at (b : Fin 2) (i : Fin 256) (j : Fin 512) :
    queries I b (ix2 i j) = (∑ e : Fin 768, I.x (ix3 b i e) * I.wq (ix2 e j)) * eighth := by
  pointwise [queries, k0_pay29, k0_pay1, xAt_at]

/-- Coordinate `d` of head `h` among the columns. -/
abbrev headCol (h : Fin 8) (d : Fin 64) : Fin 512 := ⟨64 * h.val + d.val, by omega⟩

/-- A head's score of query `i` and key `t`. -/
abbrev scoreOf (h : Fin 8) (q : FVec Ideal S256x512 .bf16) (k : Vec Ideal S1x512x1x64 .bf16) (i : Fin 256) (t : Fin 512) : EReal :=
  ∑ d : Fin 64, q (ix2 i (headCol h d)) * k (ix4 0 t 0 d)

theorem weights_at (h : Fin 8) (q : FVec Ideal S256x512 .bf16) (k : Vec Ideal S1x512x1x64 .bf16) (i : Fin 256) (t : Fin 512) :
    weights h q k (ix2 i t) = soft (scoreOf h q k i) t := by
  pointwise [weights]
  rfl

theorem headOf_at (h : Fin 8) (q : FVec Ideal S256x512 .bf16) (k v : Vec Ideal S1x512x1x64 .bf16) (i : Fin 256) (d : Fin 64) :
    headOf h q k v (ix2 i d) = attend (scoreOf h q k i) (fun t => v (ix4 0 t 0 d)) := by
  pointwise [headOf, weights_at]
  rfl

/-- The head a column belongs to, and its coordinate there. -/
abbrev headAt (j : Fin 512) : Fin 8 := ⟨j.val / 64, by omega⟩
abbrev coordAt (j : Fin 512) : Fin 64 := ⟨j.val % 64, by omega⟩

theorem mixOf_at (wo : FVec Ideal S512x768 .bf16) (hd : Fin 8 → FVec Ideal S256x64 .bf16) (i : Fin 256) (n : Fin 768) :
    mixOf (k0_pay2 wo) hd (ix2 i n) = ∑ j : Fin 512, hd (headAt j) (ix2 i (coordAt j)) * wo (ix2 j n) := by
  pointwise [mixOf, k0_pay2]
  refine Finset.sum_congr rfl fun j _ => congrArg (· * wo (ix2 j n)) ?_
  have piece : ∀ (h : Fin 8) (d : Fin 64), j.val = 64 * h.val + d.val → hd h (ix2 i d) = hd (headAt j) (ix2 i (coordAt j)) := by
    intro h d e
    have eh : headAt j = h := Fin.ext (show j.val / 64 = h.val by omega)
    have ed : coordAt j = d := Fin.ext (show j.val % 64 = d.val by omega)
    rw [eh, ed]
  have hj : j.val < 512 := j.isLt
  split_ifs <;> exact piece _ _ (by simp only [Fin.isValue, Fin.val_zero, Fin.val_one, Fin.val_ofNat, Nat.reduceMod]; omega)

/-- The batch of a row, and its place there. -/
abbrev batchRow (r : Fin 512) : Fin 2 := ⟨r.val / 256, by omega⟩
abbrev posRow (r : Fin 512) : Fin 256 := ⟨r.val % 256, by omega⟩

/-- The device's partial product. -/
theorem product_at (r : Fin 512) (n : Fin 768) :
    product I (ix2 r n) = ∑ j : Fin 512, attend
      (fun t => ∑ d : Fin 64, (∑ e : Fin 768, I.x (ix3 (batchRow r) (posRow r) e) * I.wq (ix2 e (headCol (headAt j) d))) * eighth
        * I.k (ix4 (batchRow r) t (grp (headAt j)) d))
      (fun t => I.v (ix4 (batchRow r) t (grp (headAt j)) (coordAt j))) * I.wo (ix2 j n) := by
  have e : inHalf (ix2 r n) = ix2 (posRow r) n := by
    funext a
    fin_cases a <;> rfl
  show half I (batchRow r) (inHalf (ix2 r n)) = _
  rw [e, half, mixOf_at]
  refine Finset.sum_congr rfl fun j _ => congrArg (· * I.wo (ix2 j n)) ?_
  rw [head, headOf_at]
  refine congrArg₂ attend (funext fun t => Finset.sum_congr rfl fun d _ => ?_) (funext fun t => kvAt_at I.v _ _ t _)
  rw [queries_at, kvAt_at]

/-- A device's sum of its gathered chunks. -/
theorem summed_at (P : Dev nD → Arr Ideal) (c : Dev nD) (i : Fin 32) (n : Fin 768) :
    summed P c (ix2 i n) = ∑ d : Fin 16, P d (rowAt c (ix2 i n)) := by
  pointwise [summed, k0_pay39]
  refine Finset.sum_congr rfl fun d _ => ?_
  have e : (ix2 ⟨d.val * 32 + i.val, by omega⟩ n : S512x768.Idx) = rowAt d (ix2 i n) := by
    funext a
    fin_cases a
    · exact Fin.ext (show d.val * 32 + i.val = 32 * d.val + 1 * i.val by omega)
    · exact Fin.ext (show n.val = 0 + 1 * n.val by omega)
  refine (congrArg (gathered P c) e).trans ?_
  rw [gathered, rowDev_rowAt, inRow_rowAt]

/-- The result: the devices' partial products added up. -/
theorem result_at (P : Dev nD → Arr Ideal) (i : S512x768.Idx) : result P i = ∑ d : Fin 16, P d i := by
  rw [result, eq_ix2 (inRow i)]
  refine (summed_at P _ _ _).trans ?_
  rw [← eq_ix2 (inRow i), rowAt_inRow]

end Cert.Fused
-- ==== Proof.RefValue.lean ====
/-
The reference's result read at an index over the extended reals: a sum over all the columns of one query's attention times
an output weight.
-/
module

public import proofs.«01_k».proof.Proof.Gen.ReferenceIdeal
public import proofs.«01_k».proof.Proof.Attend

@[expose] public section

set_option maxRecDepth 65536
set_option maxHeartbeats 400000

noncomputable section

namespace Cert.Fused

open Cert.ReferenceIdeal Cert.ReferenceIdeal.Gen

open Idealize.ShloMosaic

variable (x : FVec Ideal S2x256x768 .bf16) (wq : FVec Ideal S768x8192 .bf16) (wo : FVec Ideal S8192x768 .bf16) (k v : FVec Ideal S2x512x32x64 .bf16)

/-- The reference's scaled scores, -/
def refScores : FVec Ideal S2x128x256x512 .f32 :=
  mulf (Host.dotGeneral dot_S2x256x128x64_S2x512x128x64_S2x128x256x512_3_3_1_1_02_02 none
      (shapeCast S2x256x128x64 (truncf .bf16 (Host.dotGeneral dot_S2x256x768_S768x8192_S2x256x8192_2_0_01_1_n_n none x wq : FVec Ideal S2x256x8192 .f32) bitsLt_bf16_f32 : FVec Ideal S2x256x8192 .bf16) shapeCasts_S2x256x8192_S2x256x128x64 : FVec Ideal S2x256x128x64 .bf16)
      (shapeCast S2x512x128x64 (broadcastInDim S2x512x32x4x64 ![0, 1, 2, 4] bcast_S2x512x32x64_S2x512x32x4x64_0_1_2_4 k) shapeCasts_S2x512x32x4x64_S2x512x128x64 : FVec Ideal S2x512x128x64 .bf16))
    (broadcastInDim S2x128x256x512 ![] bcast_S_S2x128x256x512 (constant S_ .f32 0x3E000000#32))

/-- the exponentials of the scores, each row's maximum taken off, -/
def refWeights (s : FVec Ideal S2x128x256x512 .f32) : FVec Ideal S2x128x256x512 .f32 :=
  Host.exp (subf s (broadcastInDim S2x128x256x512 ![0, 1, 2, 3] bcast_S2x128x256x1_S2x128x256x512_0_1_2_3
    (broadcastInDim S2x128x256x1 ![0, 1, 2] bcast_S2x128x256_S2x128x256x1_0_1_2
      (Host.reduce FloatOps.maximumf s (constant S_ .f32 0xFF800000#32) reducesTo_S2x128x256x512_S2x128x256_d3 h_S_))))

/-- the heads, which are the values weighted by them over their sums, -/
def refHeads (w : FVec Ideal S2x128x256x512 .f32) : FVec Ideal S2x256x128x64 .f32 :=
  Host.divf (transpose S2x256x128x64 [0, 3, 1, 2] (Host.dotGeneral dot_S2x512x128x64_S2x128x256x512_S2x128x64x256_1_3_3_2_02_01 none
      (extf .f32 (shapeCast S2x512x128x64 (broadcastInDim S2x512x32x4x64 ![0, 1, 2, 4] bcast_S2x512x32x64_S2x512x32x4x64_0_1_2_4 v) shapeCasts_S2x512x32x4x64_S2x512x128x64 : FVec Ideal S2x512x128x64 .bf16) bitsLt_bf16_f32 : FVec Ideal S2x512x128x64 .f32) w : FVec Ideal S2x128x64x256 .f32)
      transposes_S2x128x64x256_S2x256x128x64_0_3_1_2)
    (broadcastInDim S2x256x128x64 ![0, 1, 2, 3] bcast_S2x256x128x1_S2x256x128x64_0_1_2_3 (transpose S2x256x128x1 [0, 2, 1, 3]
      (broadcastInDim S2x128x256x1 ![0, 1, 2] bcast_S2x128x256_S2x128x256x1_0_1_2 (Host.reduceAdd w (constant S_ .f32 0x00000000#32) reducesTo_S2x128x256x512_S2x128x256_d3 h_S_)) transposes_S2x128x256x1_S2x256x128x1_0_2_1_3))

/-- and the heads through the output rows. -/
def refMix (o : FVec Ideal S2x256x128x64 .f32) : FVec Ideal S512x768 .bf16 :=
  shapeCast S512x768 (truncf .bf16 (Host.dotGeneral dot_S2x256x8192_S8192x768_S2x256x768_2_0_01_1_n_n none
    (shapeCast S2x256x8192 o shapeCasts_S2x256x128x64_S2x256x8192 : FVec Ideal S2x256x8192 .f32) (extf .f32 wo bitsLt_bf16_f32 : FVec Ideal S8192x768 .f32) : FVec Ideal S2x256x768 .f32) bitsLt_bf16_f32 : FVec Ideal S2x256x768 .bf16) shapeCasts_S2x256x768_S512x768

/-- The reference's result. -/
def refTerm : FVec Ideal S512x768 .bf16 := refMix wo (refHeads v (refWeights (refScores x wq k)))

/-- Score of query `i` and key `t` in head `h` of batch `b`. -/
abbrev refScore (b : Fin 2) (h : Fin 128) (i : Fin 256) (t : Fin 512) : EReal :=
  (∑ d : Fin 64, (∑ e : Fin 768, x (ix3 b i e) * wq (ix2 e (⟨h.val * 64 + d.val, by omega⟩ : Fin 8192)))
    * k (ix4 b t (⟨h.val / 4, by omega⟩ : Fin 32) d)) * eighth

theorem refScores_at (b : Fin 2) (h : Fin 128) (i : Fin 256) (t : Fin 512) : refScores x wq k (ix4 b h i t) = refScore x wq k b h i t := by
  pointwise [refScores]

theorem refWeights_at (s : FVec Ideal S2x128x256x512 .f32) (b : Fin 2) (h : Fin 128) (i : Fin 256) (t : Fin 512) :
    refWeights s (ix4 b h i t) = soft (fun u => s (ix4 b h i u)) t := by
  pointwise [refWeights]
  rfl

theorem refHeads_at (s : FVec Ideal S2x128x256x512 .f32) (b : Fin 2) (h : Fin 128) (i : Fin 256) (d : Fin 64) :
    refHeads v (refWeights s) (ix4 b i h d) = attend (fun u => s (ix4 b h i u)) (fun t => v (ix4 b t (⟨h.val / 4, by omega⟩ : Fin 32) d)) := by
  pointwise [refHeads, refWeights_at]
  exact congrArg (Ideal.div · _) (Finset.sum_congr rfl fun t _ => mul_comm _ _)

/-- The reference's result at an index. -/
theorem refTerm_at (r : Fin 512) (n : Fin 768) :
    refTerm x wq wo k v (ix2 r n) = ∑ J : Fin 8192, attend
      (refScore x wq k ⟨r.val / 256, by omega⟩ ⟨J.val / 64, by omega⟩ ⟨r.val % 256, by omega⟩)
      (fun t => v (ix4 (⟨r.val / 256, by omega⟩ : Fin 2) t (⟨J.val / 64 / 4, by omega⟩ : Fin 32) (⟨J.val % 64, by omega⟩ : Fin 64))) * wo (ix2 J n) := by
  pointwise [refTerm, refMix]
  refine Finset.sum_congr rfl fun J _ => congrArg (· * wo (ix2 J n)) ?_
  refine (refHeads_at v _ _ _ _ _).trans ?_
  exact congrArg (attend · _) (funext fun t => refScores_at x wq k _ _ _ t)

end Cert.Fused
-- ==== Proof.Equal.lean ====
/-
The equation of the two results: from devices that each hold their part of the whole arrays, the kernel's result is the
reference's.
-/
module

public import proofs.«01_k».proof.Proof.KernelValue
public import proofs.«01_k».proof.Proof.RefValue
public import Idealize.ShloMosaic.Lib.Layout

@[expose] public section

set_option maxRecDepth 65536
set_option maxHeartbeats 400000

noncomputable section

namespace Cert.Fused

open Cert.KernelIdeal Cert.KernelIdeal.Gen

open Idealize.ShloMosaic

variable (x : S2x256x768.Idx → EReal) (wq : (⟨2, ![768, 8192]⟩ : Shape).Idx → EReal) (wo : (⟨2, ![8192, 768]⟩ : Shape).Idx → EReal)
  (k v : (⟨4, ![2, 512, 32, 64]⟩ : Shape).Idx → EReal)

/-! ## A device's part of each array, at an index -/

/-- Its query columns, -/
theorem wq_part (c : Fin 16) (e : Fin 768) (j : Fin 512) :
    (Layout.block ⟨2, ![768, 512]⟩ ⟨2, ![768, 8192]⟩ 1 16 c wq) (ix2 e j) = wq (ix2 e (colOf c j)) := by
  rw [Layout.block_apply]
  refine congrArg wq (funext fun a => Fin.ext ?_)
  rw [Layout.Tiles.idx_val]
  fin_cases a
  · rfl
  · exact congrArg (· + j.val) (Nat.mul_comm c.val 512)

/-- its output rows, -/
theorem wo_part (c : Fin 16) (j : Fin 512) (n : Fin 768) :
    (Layout.block ⟨2, ![512, 768]⟩ ⟨2, ![8192, 768]⟩ 0 16 c wo) (ix2 j n) = wo (ix2 (colOf c j) n) := by
  rw [Layout.block_apply]
  refine congrArg wo (funext fun a => Fin.ext ?_)
  rw [Layout.Tiles.idx_val]
  fin_cases a
  · exact congrArg (· + j.val) (Nat.mul_comm c.val 512)
  · rfl

/-- and its two groups of keys or values. -/
theorem kv_part (f : (⟨4, ![2, 512, 32, 64]⟩ : Shape).Idx → EReal) (c : Fin 16) (b : Fin 2) (t : Fin 512) (g : Fin 2) (d : Fin 64) :
    (Layout.block ⟨4, ![2, 512, 2, 64]⟩ ⟨4, ![2, 512, 32, 64]⟩ 2 16 c f) (ix4 b t g d) = f (ix4 b t (⟨2 * c.val + g.val, by omega⟩ : Fin 32) d) := by
  rw [Layout.block_apply]
  refine congrArg f (funext fun a => Fin.ext ?_)
  rw [Layout.Tiles.idx_val]
  fin_cases a
  · rfl
  · rfl
  · exact congrArg (· + g.val) (Nat.mul_comm c.val 2)
  · rfl

/-! ## The equation -/

/-- What the devices hold: copies of the activations, their parts of the rest. -/
structure Parts (I : Dev nD → Ins Ideal) : Prop where
  x : ∀ c, (I c).x = x
  wq : ∀ c, (I c).wq = Layout.block ⟨2, ![768, 512]⟩ ⟨2, ![768, 8192]⟩ 1 16 c wq
  wo : ∀ c, (I c).wo = Layout.block ⟨2, ![512, 768]⟩ ⟨2, ![8192, 768]⟩ 0 16 c wo
  k : ∀ c, (I c).k = Layout.block ⟨4, ![2, 512, 2, 64]⟩ ⟨4, ![2, 512, 32, 64]⟩ 2 16 c k
  v : ∀ c, (I c).v = Layout.block ⟨4, ![2, 512, 2, 64]⟩ ⟨4, ![2, 512, 32, 64]⟩ 2 16 c v

/-- The kernel's result is the reference's. -/
theorem result_eq (I : Dev nD → Ins Ideal) (h : Parts x wq wo k v I) : result (fun c => product (I c)) = refTerm x wq wo k v := by
  funext i
  obtain ⟨r, n, rfl⟩ : ∃ (r : Fin 512) (n : Fin 768), i = ix2 r n := ⟨i 0, i 1, eq_ix2 i⟩
  rw [result_at]
  refine Eq.trans ?_ (refTerm_at x wq wo k v r n).symm
  rw [sum_columns]
  refine Finset.sum_congr rfl fun c _ => ?_
  rw [product_at]
  refine Finset.sum_congr rfl fun j _ => ?_
  have hg : (⟨2 * c.val + (grp (headAt j)).val, by omega⟩ : Fin 32) = ⟨(colOf c j).val / 64 / 4, by omega⟩ :=
    Fin.ext (show 2 * c.val + j.val / 64 / 4 = (512 * c.val + j.val) / 64 / 4 by omega)
  have hd : coordAt j = (⟨(colOf c j).val % 64, by omega⟩ : Fin 64) :=
    Fin.ext (show j.val % 64 = (512 * c.val + j.val) % 64 by omega)
  rw [h.x, h.wq, h.wo, h.k, h.v, wo_part]
  refine congrArg (· * wo (ix2 (colOf c j) n)) (congrArg₂ attend (funext fun t => ?_) (funext fun t => ?_))
  · rw [score_scaled]
    refine congrArg (· * eighth) (Finset.sum_congr rfl fun d _ => ?_)
    rw [kv_part, hg]
    refine congrArg (· * k _) (Finset.sum_congr rfl fun e _ => ?_)
    rw [wq_part]
    have hq : colOf c (headCol (headAt j) d) = (⟨(colOf c j).val / 64 * 64 + d.val, by omega⟩ : Fin 8192) :=
      Fin.ext (show 512 * c.val + (64 * (j.val / 64) + d.val) = (512 * c.val + j.val) / 64 * 64 + d.val by omega)
    rw [hq]
  · rw [kv_part, hg, hd]

end Cert.Fused
-- ==== Proof.Algebraic.lean ====
/-
The value claim: the kernel's run ends with the reference's result on every device.
-/
module

public import proofs.«01_k».proof.Proof.Frames
public import proofs.«01_k».proof.Proof.Equal
public import proofs.«01_k».proof.Proof.Gen.ReferenceIdeal.Run

@[expose] public section

set_option maxRecDepth 65536
set_option maxHeartbeats 400000

noncomputable section

namespace Cert.Fused

open Cert.KernelIdeal Cert.KernelIdeal.Gen

open Idealize.ShloMosaic
open Idealize.ShloMosaic.TcCoe
open Idealize.SL.Sem
open Idealize.ShloMosaic.Pipeline (Window Grid)

/-- A window that is a whole array reads the array. -/
theorem read_all {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (X : arr.view.ty.Contents (Elt Ideal)) :
    ((Window.whole arr isOut sync stage sem harr hstage).blk (0 : Fin 1)).view.read (Elt Ideal) X = arr.view.read (Elt Ideal) X := by
  funext y
  have e : ((Window.whole arr isOut sync stage sem harr hstage).blk (0 : Fin 1)).view.emb y = arr.view.emb y := by
    refine congrArg arr.view.emb (funext fun a => Fin.ext ?_)
    show 0 * _ + 1 * (y a).val = (y a).val
    omega
  show cast _ (X _) = cast _ (X _)
  rw [e]

/-- The kernel's result array after the run, as the reference's term. -/
theorem run_value (m : (ℓ : Loc nD τ sig) → Buf (Elt Ideal) ℓ) (ρ : Dev nD → PrngReg) (x : S2x256x768.Idx → EReal)
    (wq : (⟨2, ![768, 8192]⟩ : Shape).Idx → EReal) (wo : (⟨2, ![8192, 768]⟩ : Shape).Idx → EReal) (k v : (⟨4, ![2, 512, 32, 64]⟩ : Shape).Idx → EReal)
    (h : ∀ c : Dev nD, m ((c.tc : Thread nD τ).loc main_arg0) = x
      ∧ m ((c.tc : Thread nD τ).loc main_arg1) = Layout.block ⟨2, ![768, 512]⟩ ⟨2, ![768, 8192]⟩ 1 16 c wq
      ∧ m ((c.tc : Thread nD τ).loc main_arg2) = Layout.block ⟨2, ![512, 768]⟩ ⟨2, ![8192, 768]⟩ 0 16 c wo
      ∧ m ((c.tc : Thread nD τ).loc main_arg3) = Layout.block ⟨4, ![2, 512, 2, 64]⟩ ⟨4, ![2, 512, 32, 64]⟩ 2 16 c k
      ∧ m ((c.tc : Thread nD τ).loc main_arg4) = Layout.block ⟨4, ![2, 512, 2, 64]⟩ ⟨4, ![2, 512, 32, 64]⟩ 2 16 c v) :
    θ_run defs (onTc (τ := τ) (main (F := Ideal))) ⟨m, fun _ => 0, ρ⟩ (fun r => ∀ c : Dev nD,
      r.2.mem ((c.tc : Thread nD τ).loc main_v1) = refTerm x wq wo k v
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have parts : Parts x wq wo k v (ins m) :=
    ⟨fun c => (read_all (Memref.whole main_arg0) false false (stage0_0 0) (sem0_0 0) (Memref.isWhole_whole _) (hstage0_0 0) (m ((c.tc : Thread nD τ).loc main_arg0))).trans (h c).1,
      fun c => (read_all (Memref.whole main_arg1) false false (stage0_1 0) (sem0_1 0) (Memref.isWhole_whole _) (hstage0_1 0) (m ((c.tc : Thread nD τ).loc main_arg1))).trans (h c).2.1,
      fun c => (read_all (Memref.whole main_arg2) false false (stage0_2 0) (sem0_2 0) (Memref.isWhole_whole _) (hstage0_2 0) (m ((c.tc : Thread nD τ).loc main_arg2))).trans (h c).2.2.1,
      fun c => (read_all (Memref.whole main_arg3) false false (stage0_3 0) (sem0_3 0) (Memref.isWhole_whole _) (hstage0_3 0) (m ((c.tc : Thread nD τ).loc main_arg3))).trans (h c).2.2.2.1,
      fun c => (read_all (Memref.whole main_arg4) false false (stage0_4 0) (sem0_4 0) (Memref.isWhole_whole _) (hstage0_4 0) (m ((c.tc : Thread nD τ).loc main_arg4))).trans (h c).2.2.2.2⟩
  exact (θ_run defs _ _).mono (fun r hr c =>
    ⟨((read_all (Memref.whole main_v1) _ _ _ _ _ _ (r.2.mem ((c.tc : Thread nD τ).loc main_v1))).symm.trans (hr.1 c).1).trans (result_eq x wq wo k v (ins m) parts), (hr.1 c).2⟩) (run_final m ρ)

/-- The kernel's devices all end with what the reference ends with. -/
theorem algebraic : Cert.algebraic_KernelIdeal_ReferenceIdeal := fun m ρ m' ρ' _ h =>
  ⟨refTerm _ _ _ _ _, run_value m ρ _ _ _ _ _ h,
    (θ_run Cert.ReferenceIdeal.defs _ _).mono (fun r hr => hr 0) (Cert.ReferenceIdeal.Value.run (F := Ideal) m' ρ')⟩

end Cert.Fused
-- ==== Proof.lean ====
/-
The certificate: the kernel's frames from the run of the mesh, the reference's from its run on the host, and the two results equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments and has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Fused.frame_kernel, Cert.Fused.frame_kernelIdeal, frame_reference, trivial, Cert.Fused.algebraic⟩

end Cert.Proof

end
